-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Ffn1 (m : (ℓ : Loc Cert.Ffn1.nD Cert.Ffn1.τ Cert.Ffn1.sig) → Buf (Elt Bits) ℓ) : Prop :=
  True

def Pre_Ffn1Ideal (m : (ℓ : Loc Cert.Ffn1Ideal.nD Cert.Ffn1Ideal.τ Cert.Ffn1Ideal.sig) → Buf (Elt Ideal) ℓ) : Prop :=
  True

def Pre_Ffn1Ideal_ffn1_gate_finite [hPre_ffn1_gate_finite : Cert.Pre_ffn1_gate_finite.Facts] (m : (ℓ : Loc Cert.Ffn1Ideal.nD Cert.Ffn1Ideal.τ Cert.Ffn1Ideal.sig) → Buf (Elt Ideal) ℓ) : Prop :=
  ∀ c : Dev Cert.Ffn1Ideal.nD,
    (Cert.Pre_ffn1_gate_finite.fn (F := Ideal) (m ((c.tc : Thread Cert.Ffn1Ideal.nD Cert.Ffn1Ideal.τ).loc Cert.Ffn1Ideal.main_arg0)) (m ((c.tc : Thread Cert.Ffn1Ideal.nD Cert.Ffn1Ideal.τ).loc Cert.Ffn1Ideal.main_arg1)) (m ((c.tc : Thread Cert.Ffn1Ideal.nD Cert.Ffn1Ideal.τ).loc Cert.Ffn1Ideal.main_arg2)) (m ((c.tc : Thread Cert.Ffn1Ideal.nD Cert.Ffn1Ideal.τ).loc Cert.Ffn1Ideal.main_arg3)) (m ((c.tc : Thread Cert.Ffn1Ideal.nD Cert.Ffn1Ideal.τ).loc Cert.Ffn1Ideal.main_arg4))).1 = (fun _ => 1#1)
    ∧ (Cert.Pre_ffn1_gate_finite.fn (F := Ideal) (m ((c.tc : Thread Cert.Ffn1Ideal.nD Cert.Ffn1Ideal.τ).loc Cert.Ffn1Ideal.main_arg0)) (m ((c.tc : Thread Cert.Ffn1Ideal.nD Cert.Ffn1Ideal.τ).loc Cert.Ffn1Ideal.main_arg1)) (m ((c.tc : Thread Cert.Ffn1Ideal.nD Cert.Ffn1Ideal.τ).loc Cert.Ffn1Ideal.main_arg2)) (m ((c.tc : Thread Cert.Ffn1Ideal.nD Cert.Ffn1Ideal.τ).loc Cert.Ffn1Ideal.main_arg3)) (m ((c.tc : Thread Cert.Ffn1Ideal.nD Cert.Ffn1Ideal.τ).loc Cert.Ffn1Ideal.main_arg4))).2 = (fun _ => 1#1)

def Pre_RefFfn1Ideal (m : (ℓ : Loc Cert.RefFfn1Ideal.nD Cert.RefFfn1Ideal.τ Cert.RefFfn1Ideal.sig) → Buf (Elt Ideal) ℓ) : Prop :=
  True

def Pre_RefFfn1Ideal_ffn1_gate_finite [hPre_ffn1_gate_finite : Cert.Pre_ffn1_gate_finite.Facts] (m : (ℓ : Loc Cert.RefFfn1Ideal.nD Cert.RefFfn1Ideal.τ Cert.RefFfn1Ideal.sig) → Buf (Elt Ideal) ℓ) : Prop :=
  ∀ c : Dev Cert.RefFfn1Ideal.nD,
    (Cert.Pre_ffn1_gate_finite.fn (F := Ideal) (m ((c.tc : Thread Cert.RefFfn1Ideal.nD Cert.RefFfn1Ideal.τ).loc Cert.RefFfn1Ideal.main_arg0)) (m ((c.tc : Thread Cert.RefFfn1Ideal.nD Cert.RefFfn1Ideal.τ).loc Cert.RefFfn1Ideal.main_arg1)) (m ((c.tc : Thread Cert.RefFfn1Ideal.nD Cert.RefFfn1Ideal.τ).loc Cert.RefFfn1Ideal.main_arg2)) (m ((c.tc : Thread Cert.RefFfn1Ideal.nD Cert.RefFfn1Ideal.τ).loc Cert.RefFfn1Ideal.main_arg3)) (m ((c.tc : Thread Cert.RefFfn1Ideal.nD Cert.RefFfn1Ideal.τ).loc Cert.RefFfn1Ideal.main_arg4))).1 = (fun _ => 1#1)
    ∧ (Cert.Pre_ffn1_gate_finite.fn (F := Ideal) (m ((c.tc : Thread Cert.RefFfn1Ideal.nD Cert.RefFfn1Ideal.τ).loc Cert.RefFfn1Ideal.main_arg0)) (m ((c.tc : Thread Cert.RefFfn1Ideal.nD Cert.RefFfn1Ideal.τ).loc Cert.RefFfn1Ideal.main_arg1)) (m ((c.tc : Thread Cert.RefFfn1Ideal.nD Cert.RefFfn1Ideal.τ).loc Cert.RefFfn1Ideal.main_arg2)) (m ((c.tc : Thread Cert.RefFfn1Ideal.nD Cert.RefFfn1Ideal.τ).loc Cert.RefFfn1Ideal.main_arg3)) (m ((c.tc : Thread Cert.RefFfn1Ideal.nD Cert.RefFfn1Ideal.τ).loc Cert.RefFfn1Ideal.main_arg4))).2 = (fun _ => 1#1)

def Pre_Ffn2 (m : (ℓ : Loc Cert.Ffn2.nD Cert.Ffn2.τ Cert.Ffn2.sig) → Buf (Elt Bits) ℓ) : Prop :=
  True

def Pre_Ffn2Ideal (m : (ℓ : Loc Cert.Ffn2Ideal.nD Cert.Ffn2Ideal.τ Cert.Ffn2Ideal.sig) → Buf (Elt Ideal) ℓ) : Prop :=
  True

def Pre_Ffn2Ideal_ffn2_gate_finite [hPre_ffn2_gate_finite : Cert.Pre_ffn2_gate_finite.Facts] (m : (ℓ : Loc Cert.Ffn2Ideal.nD Cert.Ffn2Ideal.τ Cert.Ffn2Ideal.sig) → Buf (Elt Ideal) ℓ) : Prop :=
  ∀ c : Dev Cert.Ffn2Ideal.nD,
    (Cert.Pre_ffn2_gate_finite.fn (F := Ideal) (m ((c.tc : Thread Cert.Ffn2Ideal.nD Cert.Ffn2Ideal.τ).loc Cert.Ffn2Ideal.main_arg0)) (m ((c.tc : Thread Cert.Ffn2Ideal.nD Cert.Ffn2Ideal.τ).loc Cert.Ffn2Ideal.main_arg1)) (m ((c.tc : Thread Cert.Ffn2Ideal.nD Cert.Ffn2Ideal.τ).loc Cert.Ffn2Ideal.main_arg2)) (m ((c.tc : Thread Cert.Ffn2Ideal.nD Cert.Ffn2Ideal.τ).loc Cert.Ffn2Ideal.main_arg3)) (m ((c.tc : Thread Cert.Ffn2Ideal.nD Cert.Ffn2Ideal.τ).loc Cert.Ffn2Ideal.main_arg4)) (m ((c.tc : Thread Cert.Ffn2Ideal.nD Cert.Ffn2Ideal.τ).loc Cert.Ffn2Ideal.main_arg5))).1 = (fun _ => 1#1)
    ∧ (Cert.Pre_ffn2_gate_finite.fn (F := Ideal) (m ((c.tc : Thread Cert.Ffn2Ideal.nD Cert.Ffn2Ideal.τ).loc Cert.Ffn2Ideal.main_arg0)) (m ((c.tc : Thread Cert.Ffn2Ideal.nD Cert.Ffn2Ideal.τ).loc Cert.Ffn2Ideal.main_arg1)) (m ((c.tc : Thread Cert.Ffn2Ideal.nD Cert.Ffn2Ideal.τ).loc Cert.Ffn2Ideal.main_arg2)) (m ((c.tc : Thread Cert.Ffn2Ideal.nD Cert.Ffn2Ideal.τ).loc Cert.Ffn2Ideal.main_arg3)) (m ((c.tc : Thread Cert.Ffn2Ideal.nD Cert.Ffn2Ideal.τ).loc Cert.Ffn2Ideal.main_arg4)) (m ((c.tc : Thread Cert.Ffn2Ideal.nD Cert.Ffn2Ideal.τ).loc Cert.Ffn2Ideal.main_arg5))).2 = (fun _ => 1#1)

def Pre_RefFfn2Ideal (m : (ℓ : Loc Cert.RefFfn2Ideal.nD Cert.RefFfn2Ideal.τ Cert.RefFfn2Ideal.sig) → Buf (Elt Ideal) ℓ) : Prop :=
  True

def Pre_RefFfn2Ideal_ffn2_gate_finite [hPre_ffn2_gate_finite : Cert.Pre_ffn2_gate_finite.Facts] (m : (ℓ : Loc Cert.RefFfn2Ideal.nD Cert.RefFfn2Ideal.τ Cert.RefFfn2Ideal.sig) → Buf (Elt Ideal) ℓ) : Prop :=
  ∀ c : Dev Cert.RefFfn2Ideal.nD,
    (Cert.Pre_ffn2_gate_finite.fn (F := Ideal) (m ((c.tc : Thread Cert.RefFfn2Ideal.nD Cert.RefFfn2Ideal.τ).loc Cert.RefFfn2Ideal.main_arg0)) (m ((c.tc : Thread Cert.RefFfn2Ideal.nD Cert.RefFfn2Ideal.τ).loc Cert.RefFfn2Ideal.main_arg1)) (m ((c.tc : Thread Cert.RefFfn2Ideal.nD Cert.RefFfn2Ideal.τ).loc Cert.RefFfn2Ideal.main_arg2)) (m ((c.tc : Thread Cert.RefFfn2Ideal.nD Cert.RefFfn2Ideal.τ).loc Cert.RefFfn2Ideal.main_arg3)) (m ((c.tc : Thread Cert.RefFfn2Ideal.nD Cert.RefFfn2Ideal.τ).loc Cert.RefFfn2Ideal.main_arg4)) (m ((c.tc : Thread Cert.RefFfn2Ideal.nD Cert.RefFfn2Ideal.τ).loc Cert.RefFfn2Ideal.main_arg5))).1 = (fun _ => 1#1)
    ∧ (Cert.Pre_ffn2_gate_finite.fn (F := Ideal) (m ((c.tc : Thread Cert.RefFfn2Ideal.nD Cert.RefFfn2Ideal.τ).loc Cert.RefFfn2Ideal.main_arg0)) (m ((c.tc : Thread Cert.RefFfn2Ideal.nD Cert.RefFfn2Ideal.τ).loc Cert.RefFfn2Ideal.main_arg1)) (m ((c.tc : Thread Cert.RefFfn2Ideal.nD Cert.RefFfn2Ideal.τ).loc Cert.RefFfn2Ideal.main_arg2)) (m ((c.tc : Thread Cert.RefFfn2Ideal.nD Cert.RefFfn2Ideal.τ).loc Cert.RefFfn2Ideal.main_arg3)) (m ((c.tc : Thread Cert.RefFfn2Ideal.nD Cert.RefFfn2Ideal.τ).loc Cert.RefFfn2Ideal.main_arg4)) (m ((c.tc : Thread Cert.RefFfn2Ideal.nD Cert.RefFfn2Ideal.τ).loc Cert.RefFfn2Ideal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_Ffn1 [hFfn1 : Cert.Ffn1.Facts] : Prop :=
  ∀ (m : (ℓ : Loc Cert.Ffn1.nD Cert.Ffn1.τ Cert.Ffn1.sig) → Buf (Elt Bits) ℓ) (g : Dev Cert.Ffn1.nD → PrngReg), Pre_Ffn1 m →
    θ_run (Cert.Ffn1.defs (F := Bits)) (onTc (τ := Cert.Ffn1.τ) (Cert.Ffn1.main (F := Bits))) ⟨m, fun _ => 0, g⟩ (fun r => (∀ c : Dev Cert.Ffn1.nD,
      r.2.mem ((c.tc : Thread Cert.Ffn1.nD Cert.Ffn1.τ).loc Cert.Ffn1.main_arg0) = m ((c.tc : Thread Cert.Ffn1.nD Cert.Ffn1.τ).loc Cert.Ffn1.main_arg0)
      ∧ r.2.mem ((c.tc : Thread Cert.Ffn1.nD Cert.Ffn1.τ).loc Cert.Ffn1.main_arg1) = m ((c.tc : Thread Cert.Ffn1.nD Cert.Ffn1.τ).loc Cert.Ffn1.main_arg1)
      ∧ r.2.mem ((c.tc : Thread Cert.Ffn1.nD Cert.Ffn1.τ).loc Cert.Ffn1.main_arg2) = m ((c.tc : Thread Cert.Ffn1.nD Cert.Ffn1.τ).loc Cert.Ffn1.main_arg2)
      ∧ r.2.mem ((c.tc : Thread Cert.Ffn1.nD Cert.Ffn1.τ).loc Cert.Ffn1.main_arg3) = m ((c.tc : Thread Cert.Ffn1.nD Cert.Ffn1.τ).loc Cert.Ffn1.main_arg3)
      ∧ r.2.mem ((c.tc : Thread Cert.Ffn1.nD Cert.Ffn1.τ).loc Cert.Ffn1.main_arg4) = m ((c.tc : Thread Cert.Ffn1.nD Cert.Ffn1.τ).loc Cert.Ffn1.main_arg4))
      ∧ r.2.sem = fun _ => 0)

def quiescent_Ffn1Ideal [hFfn1Ideal : Cert.Ffn1Ideal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg), Pre_Ffn1Ideal m →
    θ_run (Cert.Ffn1Ideal.defs (F := Ideal)) (onTc (τ := Cert.Ffn1Ideal.τ) (Cert.Ffn1Ideal.main (F := Ideal))) ⟨m, fun _ => 0, g⟩ (fun r => (∀ c : Dev Cert.Ffn1Ideal.nD,
      r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
      ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
      ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
      ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
      ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4))
      ∧ r.2.sem = fun _ => 0)

def quiescent_Ffn1Ideal_pre_ffn1_gate_finite [hFfn1Ideal : Cert.Ffn1Ideal.Facts] [hPre_ffn1_gate_finite : Cert.Pre_ffn1_gate_finite.Facts] : Prop :=
  ∀ (m : (ℓ : Loc Cert.Ffn1Ideal.nD Cert.Ffn1Ideal.τ Cert.Ffn1Ideal.sig) → Buf (Elt Ideal) ℓ) (g : Dev Cert.Ffn1Ideal.nD → PrngReg), Pre_Ffn1Ideal_ffn1_gate_finite m →
    θ_run (Cert.Ffn1Ideal.defs (F := Ideal)) (onTc (τ := Cert.Ffn1Ideal.τ) (Cert.Ffn1Ideal.main (F := Ideal))) ⟨m, fun _ => 0, g⟩ (fun r => (∀ c : Dev Cert.Ffn1Ideal.nD,
      r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
      ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
      ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
      ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
      ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4))
      ∧ r.2.sem = fun _ => 0)

def quiescent_RefFfn1Ideal [hRefFfn1Ideal : Cert.RefFfn1Ideal.Facts] : Prop :=
  ∀ (m : (ℓ : Loc Cert.RefFfn1Ideal.nD Cert.RefFfn1Ideal.τ Cert.RefFfn1Ideal.sig) → Buf (Elt Ideal) ℓ) (g : Dev Cert.RefFfn1Ideal.nD → PrngReg), Pre_RefFfn1Ideal m →
    θ_run (Cert.RefFfn1Ideal.defs (F := Ideal)) (onTc (τ := Cert.RefFfn1Ideal.τ) (Cert.RefFfn1Ideal.main (F := Ideal))) ⟨m, fun _ => 0, g⟩ (fun r => (∀ c : Dev Cert.RefFfn1Ideal.nD,
      r.2.mem ((c.tc : Thread Cert.RefFfn1Ideal.nD Cert.RefFfn1Ideal.τ).loc Cert.RefFfn1Ideal.main_arg0) = m ((c.tc : Thread Cert.RefFfn1Ideal.nD Cert.RefFfn1Ideal.τ).loc Cert.RefFfn1Ideal.main_arg0)
      ∧ r.2.mem ((c.tc : Thread Cert.RefFfn1Ideal.nD Cert.RefFfn1Ideal.τ).loc Cert.RefFfn1Ideal.main_arg1) = m ((c.tc : Thread Cert.RefFfn1Ideal.nD Cert.RefFfn1Ideal.τ).loc Cert.RefFfn1Ideal.main_arg1)
      ∧ r.2.mem ((c.tc : Thread Cert.RefFfn1Ideal.nD Cert.RefFfn1Ideal.τ).loc Cert.RefFfn1Ideal.main_arg2) = m ((c.tc : Thread Cert.RefFfn1Ideal.nD Cert.RefFfn1Ideal.τ).loc Cert.RefFfn1Ideal.main_arg2)
      ∧ r.2.mem ((c.tc : Thread Cert.RefFfn1Ideal.nD Cert.RefFfn1Ideal.τ).loc Cert.RefFfn1Ideal.main_arg3) = m ((c.tc : Thread Cert.RefFfn1Ideal.nD Cert.RefFfn1Ideal.τ).loc Cert.RefFfn1Ideal.main_arg3)
      ∧ r.2.mem ((c.tc : Thread Cert.RefFfn1Ideal.nD Cert.RefFfn1Ideal.τ).loc Cert.RefFfn1Ideal.main_arg4) = m ((c.tc : Thread Cert.RefFfn1Ideal.nD Cert.RefFfn1Ideal.τ).loc Cert.RefFfn1Ideal.main_arg4))
      ∧ r.2.sem = fun _ => 0)

def quiescent_RefFfn1Ideal_pre_ffn1_gate_finite [hRefFfn1Ideal : Cert.RefFfn1Ideal.Facts] [hPre_ffn1_gate_finite : Cert.Pre_ffn1_gate_finite.Facts] : Prop :=
  ∀ (m : (ℓ : Loc Cert.RefFfn1Ideal.nD Cert.RefFfn1Ideal.τ Cert.RefFfn1Ideal.sig) → Buf (Elt Ideal) ℓ) (g : Dev Cert.RefFfn1Ideal.nD → PrngReg), Pre_RefFfn1Ideal_ffn1_gate_finite m →
    θ_run (Cert.RefFfn1Ideal.defs (F := Ideal)) (onTc (τ := Cert.RefFfn1Ideal.τ) (Cert.RefFfn1Ideal.main (F := Ideal))) ⟨m, fun _ => 0, g⟩ (fun r => (∀ c : Dev Cert.RefFfn1Ideal.nD,
      r.2.mem ((c.tc : Thread Cert.RefFfn1Ideal.nD Cert.RefFfn1Ideal.τ).loc Cert.RefFfn1Ideal.main_arg0) = m ((c.tc : Thread Cert.RefFfn1Ideal.nD Cert.RefFfn1Ideal.τ).loc Cert.RefFfn1Ideal.main_arg0)
      ∧ r.2.mem ((c.tc : Thread Cert.RefFfn1Ideal.nD Cert.RefFfn1Ideal.τ).loc Cert.RefFfn1Ideal.main_arg1) = m ((c.tc : Thread Cert.RefFfn1Ideal.nD Cert.RefFfn1Ideal.τ).loc Cert.RefFfn1Ideal.main_arg1)
      ∧ r.2.mem ((c.tc : Thread Cert.RefFfn1Ideal.nD Cert.RefFfn1Ideal.τ).loc Cert.RefFfn1Ideal.main_arg2) = m ((c.tc : Thread Cert.RefFfn1Ideal.nD Cert.RefFfn1Ideal.τ).loc Cert.RefFfn1Ideal.main_arg2)
      ∧ r.2.mem ((c.tc : Thread Cert.RefFfn1Ideal.nD Cert.RefFfn1Ideal.τ).loc Cert.RefFfn1Ideal.main_arg3) = m ((c.tc : Thread Cert.RefFfn1Ideal.nD Cert.RefFfn1Ideal.τ).loc Cert.RefFfn1Ideal.main_arg3)
      ∧ r.2.mem ((c.tc : Thread Cert.RefFfn1Ideal.nD Cert.RefFfn1Ideal.τ).loc Cert.RefFfn1Ideal.main_arg4) = m ((c.tc : Thread Cert.RefFfn1Ideal.nD Cert.RefFfn1Ideal.τ).loc Cert.RefFfn1Ideal.main_arg4))
      ∧ r.2.sem = fun _ => 0)

def quiescent_Ffn2 [hFfn2 : Cert.Ffn2.Facts] : Prop :=
  ∀ (m : (ℓ : Loc Cert.Ffn2.nD Cert.Ffn2.τ Cert.Ffn2.sig) → Buf (Elt Bits) ℓ) (g : Dev Cert.Ffn2.nD → PrngReg), Pre_Ffn2 m →
    θ_run (Cert.Ffn2.defs (F := Bits)) (onTc (τ := Cert.Ffn2.τ) (Cert.Ffn2.main (F := Bits))) ⟨m, fun _ => 0, g⟩ (fun r => (∀ c : Dev Cert.Ffn2.nD,
      r.2.mem ((c.tc : Thread Cert.Ffn2.nD Cert.Ffn2.τ).loc Cert.Ffn2.main_arg0) = m ((c.tc : Thread Cert.Ffn2.nD Cert.Ffn2.τ).loc Cert.Ffn2.main_arg0)
      ∧ r.2.mem ((c.tc : Thread Cert.Ffn2.nD Cert.Ffn2.τ).loc Cert.Ffn2.main_arg1) = m ((c.tc : Thread Cert.Ffn2.nD Cert.Ffn2.τ).loc Cert.Ffn2.main_arg1)
      ∧ r.2.mem ((c.tc : Thread Cert.Ffn2.nD Cert.Ffn2.τ).loc Cert.Ffn2.main_arg2) = m ((c.tc : Thread Cert.Ffn2.nD Cert.Ffn2.τ).loc Cert.Ffn2.main_arg2)
      ∧ r.2.mem ((c.tc : Thread Cert.Ffn2.nD Cert.Ffn2.τ).loc Cert.Ffn2.main_arg3) = m ((c.tc : Thread Cert.Ffn2.nD Cert.Ffn2.τ).loc Cert.Ffn2.main_arg3)
      ∧ r.2.mem ((c.tc : Thread Cert.Ffn2.nD Cert.Ffn2.τ).loc Cert.Ffn2.main_arg4) = m ((c.tc : Thread Cert.Ffn2.nD Cert.Ffn2.τ).loc Cert.Ffn2.main_arg4)
      ∧ r.2.mem ((c.tc : Thread Cert.Ffn2.nD Cert.Ffn2.τ).loc Cert.Ffn2.main_arg5) = m ((c.tc : Thread Cert.Ffn2.nD Cert.Ffn2.τ).loc Cert.Ffn2.main_arg5))
      ∧ r.2.sem = fun _ => 0)

def quiescent_Ffn2Ideal [hFfn2Ideal : Cert.Ffn2Ideal.Facts] : Prop :=
  ∀ (m : (ℓ : Loc Cert.Ffn2Ideal.nD Cert.Ffn2Ideal.τ Cert.Ffn2Ideal.sig) → Buf (Elt Ideal) ℓ) (g : Dev Cert.Ffn2Ideal.nD → PrngReg), Pre_Ffn2Ideal m →
    θ_run (Cert.Ffn2Ideal.defs (F := Ideal)) (onTc (τ := Cert.Ffn2Ideal.τ) (Cert.Ffn2Ideal.main (F := Ideal))) ⟨m, fun _ => 0, g⟩ (fun r => (∀ c : Dev Cert.Ffn2Ideal.nD,
      r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
      ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
      ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2)
      ∧ r.2.mem ((c.tc : Thread Cert.Ffn2Ideal.nD Cert.Ffn2Ideal.τ).loc Cert.Ffn2Ideal.main_arg3) = m ((c.tc : Thread Cert.Ffn2Ideal.nD Cert.Ffn2Ideal.τ).loc Cert.Ffn2Ideal.main_arg3)
      ∧ r.2.mem ((c.tc : Thread Cert.Ffn2Ideal.nD Cert.Ffn2Ideal.τ).loc Cert.Ffn2Ideal.main_arg4) = m ((c.tc : Thread Cert.Ffn2Ideal.nD Cert.Ffn2Ideal.τ).loc Cert.Ffn2Ideal.main_arg4)
      ∧ r.2.mem ((c.tc : Thread Cert.Ffn2Ideal.nD Cert.Ffn2Ideal.τ).loc Cert.Ffn2Ideal.main_arg5) = m ((c.tc : Thread Cert.Ffn2Ideal.nD Cert.Ffn2Ideal.τ).loc Cert.Ffn2Ideal.main_arg5))
      ∧ r.2.sem = fun _ => 0)

def quiescent_Ffn2Ideal_pre_ffn2_gate_finite [hFfn2Ideal : Cert.Ffn2Ideal.Facts] [hPre_ffn2_gate_finite : Cert.Pre_ffn2_gate_finite.Facts] : Prop :=
  ∀ (m : (ℓ : Loc Cert.Ffn2Ideal.nD Cert.Ffn2Ideal.τ Cert.Ffn2Ideal.sig) → Buf (Elt Ideal) ℓ) (g : Dev Cert.Ffn2Ideal.nD → PrngReg), Pre_Ffn2Ideal_ffn2_gate_finite m →
    θ_run (Cert.Ffn2Ideal.defs (F := Ideal)) (onTc (τ := Cert.Ffn2Ideal.τ) (Cert.Ffn2Ideal.main (F := Ideal))) ⟨m, fun _ => 0, g⟩ (fun r => (∀ c : Dev Cert.Ffn2Ideal.nD,
      r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
      ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
      ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2)
      ∧ r.2.mem ((c.tc : Thread Cert.Ffn2Ideal.nD Cert.Ffn2Ideal.τ).loc Cert.Ffn2Ideal.main_arg3) = m ((c.tc : Thread Cert.Ffn2Ideal.nD Cert.Ffn2Ideal.τ).loc Cert.Ffn2Ideal.main_arg3)
      ∧ r.2.mem ((c.tc : Thread Cert.Ffn2Ideal.nD Cert.Ffn2Ideal.τ).loc Cert.Ffn2Ideal.main_arg4) = m ((c.tc : Thread Cert.Ffn2Ideal.nD Cert.Ffn2Ideal.τ).loc Cert.Ffn2Ideal.main_arg4)
      ∧ r.2.mem ((c.tc : Thread Cert.Ffn2Ideal.nD Cert.Ffn2Ideal.τ).loc Cert.Ffn2Ideal.main_arg5) = m ((c.tc : Thread Cert.Ffn2Ideal.nD Cert.Ffn2Ideal.τ).loc Cert.Ffn2Ideal.main_arg5))
      ∧ r.2.sem = fun _ => 0)

def quiescent_RefFfn2Ideal [hRefFfn2Ideal : Cert.RefFfn2Ideal.Facts] : Prop :=
  ∀ (m : (ℓ : Loc Cert.RefFfn2Ideal.nD Cert.RefFfn2Ideal.τ Cert.RefFfn2Ideal.sig) → Buf (Elt Ideal) ℓ) (g : Dev Cert.RefFfn2Ideal.nD → PrngReg), Pre_RefFfn2Ideal m →
    θ_run (Cert.RefFfn2Ideal.defs (F := Ideal)) (onTc (τ := Cert.RefFfn2Ideal.τ) (Cert.RefFfn2Ideal.main (F := Ideal))) ⟨m, fun _ => 0, g⟩ (fun r => (∀ c : Dev Cert.RefFfn2Ideal.nD,
      r.2.mem ((c.tc : Thread Cert.RefFfn2Ideal.nD Cert.RefFfn2Ideal.τ).loc Cert.RefFfn2Ideal.main_arg0) = m ((c.tc : Thread Cert.RefFfn2Ideal.nD Cert.RefFfn2Ideal.τ).loc Cert.RefFfn2Ideal.main_arg0)
      ∧ r.2.mem ((c.tc : Thread Cert.RefFfn2Ideal.nD Cert.RefFfn2Ideal.τ).loc Cert.RefFfn2Ideal.main_arg1) = m ((c.tc : Thread Cert.RefFfn2Ideal.nD Cert.RefFfn2Ideal.τ).loc Cert.RefFfn2Ideal.main_arg1)
      ∧ r.2.mem ((c.tc : Thread Cert.RefFfn2Ideal.nD Cert.RefFfn2Ideal.τ).loc Cert.RefFfn2Ideal.main_arg2) = m ((c.tc : Thread Cert.RefFfn2Ideal.nD Cert.RefFfn2Ideal.τ).loc Cert.RefFfn2Ideal.main_arg2)
      ∧ r.2.mem ((c.tc : Thread Cert.RefFfn2Ideal.nD Cert.RefFfn2Ideal.τ).loc Cert.RefFfn2Ideal.main_arg3) = m ((c.tc : Thread Cert.RefFfn2Ideal.nD Cert.RefFfn2Ideal.τ).loc Cert.RefFfn2Ideal.main_arg3)
      ∧ r.2.mem ((c.tc : Thread Cert.RefFfn2Ideal.nD Cert.RefFfn2Ideal.τ).loc Cert.RefFfn2Ideal.main_arg4) = m ((c.tc : Thread Cert.RefFfn2Ideal.nD Cert.RefFfn2Ideal.τ).loc Cert.RefFfn2Ideal.main_arg4)
      ∧ r.2.mem ((c.tc : Thread Cert.RefFfn2Ideal.nD Cert.RefFfn2Ideal.τ).loc Cert.RefFfn2Ideal.main_arg5) = m ((c.tc : Thread Cert.RefFfn2Ideal.nD Cert.RefFfn2Ideal.τ).loc Cert.RefFfn2Ideal.main_arg5))
      ∧ r.2.sem = fun _ => 0)

def quiescent_RefFfn2Ideal_pre_ffn2_gate_finite [hRefFfn2Ideal : Cert.RefFfn2Ideal.Facts] [hPre_ffn2_gate_finite : Cert.Pre_ffn2_gate_finite.Facts] : Prop :=
  ∀ (m : (ℓ : Loc Cert.RefFfn2Ideal.nD Cert.RefFfn2Ideal.τ Cert.RefFfn2Ideal.sig) → Buf (Elt Ideal) ℓ) (g : Dev Cert.RefFfn2Ideal.nD → PrngReg), Pre_RefFfn2Ideal_ffn2_gate_finite m →
    θ_run (Cert.RefFfn2Ideal.defs (F := Ideal)) (onTc (τ := Cert.RefFfn2Ideal.τ) (Cert.RefFfn2Ideal.main (F := Ideal))) ⟨m, fun _ => 0, g⟩ (fun r => (∀ c : Dev Cert.RefFfn2Ideal.nD,
      r.2.mem ((c.tc : Thread Cert.RefFfn2Ideal.nD Cert.RefFfn2Ideal.τ).loc Cert.RefFfn2Ideal.main_arg0) = m ((c.tc : Thread Cert.RefFfn2Ideal.nD Cert.RefFfn2Ideal.τ).loc Cert.RefFfn2Ideal.main_arg0)
      ∧ r.2.mem ((c.tc : Thread Cert.RefFfn2Ideal.nD Cert.RefFfn2Ideal.τ).loc Cert.RefFfn2Ideal.main_arg1) = m ((c.tc : Thread Cert.RefFfn2Ideal.nD Cert.RefFfn2Ideal.τ).loc Cert.RefFfn2Ideal.main_arg1)
      ∧ r.2.mem ((c.tc : Thread Cert.RefFfn2Ideal.nD Cert.RefFfn2Ideal.τ).loc Cert.RefFfn2Ideal.main_arg2) = m ((c.tc : Thread Cert.RefFfn2Ideal.nD Cert.RefFfn2Ideal.τ).loc Cert.RefFfn2Ideal.main_arg2)
      ∧ r.2.mem ((c.tc : Thread Cert.RefFfn2Ideal.nD Cert.RefFfn2Ideal.τ).loc Cert.RefFfn2Ideal.main_arg3) = m ((c.tc : Thread Cert.RefFfn2Ideal.nD Cert.RefFfn2Ideal.τ).loc Cert.RefFfn2Ideal.main_arg3)
      ∧ r.2.mem ((c.tc : Thread Cert.RefFfn2Ideal.nD Cert.RefFfn2Ideal.τ).loc Cert.RefFfn2Ideal.main_arg4) = m ((c.tc : Thread Cert.RefFfn2Ideal.nD Cert.RefFfn2Ideal.τ).loc Cert.RefFfn2Ideal.main_arg4)
      ∧ r.2.mem ((c.tc : Thread Cert.RefFfn2Ideal.nD Cert.RefFfn2Ideal.τ).loc Cert.RefFfn2Ideal.main_arg5) = m ((c.tc : Thread Cert.RefFfn2Ideal.nD Cert.RefFfn2Ideal.τ).loc Cert.RefFfn2Ideal.main_arg5))
      ∧ r.2.sem = fun _ => 0)

def preserves_Kernel_KernelIdeal : Prop :=
  True

def preserves_Ffn1_Ffn1Ideal : Prop :=
  True

def algebraic_Ffn1Ideal_RefFfn1Ideal_pre_ffn1_gate_finite [hFfn1Ideal : Cert.Ffn1Ideal.Facts] [hRefFfn1Ideal : Cert.RefFfn1Ideal.Facts] [hPre_ffn1_gate_finite : Cert.Pre_ffn1_gate_finite.Facts] : Prop :=
  ∀ (m : (ℓ : Loc Cert.Ffn1Ideal.nD Cert.Ffn1Ideal.τ Cert.Ffn1Ideal.sig) → Buf (Elt Ideal) ℓ) (g : Dev Cert.Ffn1Ideal.nD → PrngReg)
    (m' : (ℓ : Loc Cert.RefFfn1Ideal.nD Cert.RefFfn1Ideal.τ Cert.RefFfn1Ideal.sig) → Buf (Elt Ideal) ℓ) (g' : Dev Cert.RefFfn1Ideal.nD → PrngReg), Pre_Ffn1Ideal_ffn1_gate_finite m →
    (∀ c : Dev Cert.Ffn1Ideal.nD,
      m' ((c.tc : Thread Cert.RefFfn1Ideal.nD Cert.RefFfn1Ideal.τ).loc Cert.RefFfn1Ideal.main_arg0) = m ((c.tc : Thread Cert.Ffn1Ideal.nD Cert.Ffn1Ideal.τ).loc Cert.Ffn1Ideal.main_arg0)
      ∧ m' ((c.tc : Thread Cert.RefFfn1Ideal.nD Cert.RefFfn1Ideal.τ).loc Cert.RefFfn1Ideal.main_arg1) = m ((c.tc : Thread Cert.Ffn1Ideal.nD Cert.Ffn1Ideal.τ).loc Cert.Ffn1Ideal.main_arg1)
      ∧ m' ((c.tc : Thread Cert.RefFfn1Ideal.nD Cert.RefFfn1Ideal.τ).loc Cert.RefFfn1Ideal.main_arg2) = m ((c.tc : Thread Cert.Ffn1Ideal.nD Cert.Ffn1Ideal.τ).loc Cert.Ffn1Ideal.main_arg2)
      ∧ m' ((c.tc : Thread Cert.RefFfn1Ideal.nD Cert.RefFfn1Ideal.τ).loc Cert.RefFfn1Ideal.main_arg3) = m ((c.tc : Thread Cert.Ffn1Ideal.nD Cert.Ffn1Ideal.τ).loc Cert.Ffn1Ideal.main_arg3)
      ∧ m' ((c.tc : Thread Cert.RefFfn1Ideal.nD Cert.RefFfn1Ideal.τ).loc Cert.RefFfn1Ideal.main_arg4) = m ((c.tc : Thread Cert.Ffn1Ideal.nD Cert.Ffn1Ideal.τ).loc Cert.Ffn1Ideal.main_arg4)) →
    ∃ (v0 : (c : Dev Cert.Ffn1Ideal.nD) → Buf (Elt Ideal) ((c.tc : Thread Cert.Ffn1Ideal.nD Cert.Ffn1Ideal.τ).loc Cert.Ffn1Ideal.main_v7)),
      θ_run (Cert.Ffn1Ideal.defs (F := Ideal)) (onTc (τ := Cert.Ffn1Ideal.τ) (Cert.Ffn1Ideal.main (F := Ideal))) ⟨m, fun _ => 0, g⟩ (fun r => ∀ c : Dev Cert.Ffn1Ideal.nD,
          r.2.mem ((c.tc : Thread Cert.Ffn1Ideal.nD Cert.Ffn1Ideal.τ).loc Cert.Ffn1Ideal.main_v7) = v0 c
          ∧ r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
          ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
          ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
          ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
          ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4))
      ∧ θ_run (Cert.RefFfn1Ideal.defs (F := Ideal)) (onTc (τ := Cert.RefFfn1Ideal.τ) (Cert.RefFfn1Ideal.main (F := Ideal))) ⟨m', fun _ => 0, g'⟩ (fun r => ∀ c : Dev Cert.RefFfn1Ideal.nD,
          r.2.mem ((c.tc : Thread Cert.RefFfn1Ideal.nD Cert.RefFfn1Ideal.τ).loc Cert.RefFfn1Ideal.main_v25) = v0 c
          ∧ r.2.mem ((c.tc : Thread Cert.RefFfn1Ideal.nD Cert.RefFfn1Ideal.τ).loc Cert.RefFfn1Ideal.main_arg0) = m' ((c.tc : Thread Cert.RefFfn1Ideal.nD Cert.RefFfn1Ideal.τ).loc Cert.RefFfn1Ideal.main_arg0)
          ∧ r.2.mem ((c.tc : Thread Cert.RefFfn1Ideal.nD Cert.RefFfn1Ideal.τ).loc Cert.RefFfn1Ideal.main_arg1) = m' ((c.tc : Thread Cert.RefFfn1Ideal.nD Cert.RefFfn1Ideal.τ).loc Cert.RefFfn1Ideal.main_arg1)
          ∧ r.2.mem ((c.tc : Thread Cert.RefFfn1Ideal.nD Cert.RefFfn1Ideal.τ).loc Cert.RefFfn1Ideal.main_arg2) = m' ((c.tc : Thread Cert.RefFfn1Ideal.nD Cert.RefFfn1Ideal.τ).loc Cert.RefFfn1Ideal.main_arg2)
          ∧ r.2.mem ((c.tc : Thread Cert.RefFfn1Ideal.nD Cert.RefFfn1Ideal.τ).loc Cert.RefFfn1Ideal.main_arg3) = m' ((c.tc : Thread Cert.RefFfn1Ideal.nD Cert.RefFfn1Ideal.τ).loc Cert.RefFfn1Ideal.main_arg3)
          ∧ r.2.mem ((c.tc : Thread Cert.RefFfn1Ideal.nD Cert.RefFfn1Ideal.τ).loc Cert.RefFfn1Ideal.main_arg4) = m' ((c.tc : Thread Cert.RefFfn1Ideal.nD Cert.RefFfn1Ideal.τ).loc Cert.RefFfn1Ideal.main_arg4))

def preserves_Ffn2_Ffn2Ideal : Prop :=
  True

def algebraic_Ffn2Ideal_RefFfn2Ideal_pre_ffn2_gate_finite [hFfn2Ideal : Cert.Ffn2Ideal.Facts] [hRefFfn2Ideal : Cert.RefFfn2Ideal.Facts] [hPre_ffn2_gate_finite : Cert.Pre_ffn2_gate_finite.Facts] : Prop :=
  ∀ (m : (ℓ : Loc Cert.Ffn2Ideal.nD Cert.Ffn2Ideal.τ Cert.Ffn2Ideal.sig) → Buf (Elt Ideal) ℓ) (g : Dev Cert.Ffn2Ideal.nD → PrngReg)
    (m' : (ℓ : Loc Cert.RefFfn2Ideal.nD Cert.RefFfn2Ideal.τ Cert.RefFfn2Ideal.sig) → Buf (Elt Ideal) ℓ) (g' : Dev Cert.RefFfn2Ideal.nD → PrngReg), Pre_Ffn2Ideal_ffn2_gate_finite m →
    (∀ c : Dev Cert.Ffn2Ideal.nD,
      m' ((c.tc : Thread Cert.RefFfn2Ideal.nD Cert.RefFfn2Ideal.τ).loc Cert.RefFfn2Ideal.main_arg0) = m ((c.tc : Thread Cert.Ffn2Ideal.nD Cert.Ffn2Ideal.τ).loc Cert.Ffn2Ideal.main_arg0)
      ∧ m' ((c.tc : Thread Cert.RefFfn2Ideal.nD Cert.RefFfn2Ideal.τ).loc Cert.RefFfn2Ideal.main_arg1) = m ((c.tc : Thread Cert.Ffn2Ideal.nD Cert.Ffn2Ideal.τ).loc Cert.Ffn2Ideal.main_arg1)
      ∧ m' ((c.tc : Thread Cert.RefFfn2Ideal.nD Cert.RefFfn2Ideal.τ).loc Cert.RefFfn2Ideal.main_arg2) = m ((c.tc : Thread Cert.Ffn2Ideal.nD Cert.Ffn2Ideal.τ).loc Cert.Ffn2Ideal.main_arg2)
      ∧ m' ((c.tc : Thread Cert.RefFfn2Ideal.nD Cert.RefFfn2Ideal.τ).loc Cert.RefFfn2Ideal.main_arg3) = m ((c.tc : Thread Cert.Ffn2Ideal.nD Cert.Ffn2Ideal.τ).loc Cert.Ffn2Ideal.main_arg3)
      ∧ m' ((c.tc : Thread Cert.RefFfn2Ideal.nD Cert.RefFfn2Ideal.τ).loc Cert.RefFfn2Ideal.main_arg4) = m ((c.tc : Thread Cert.Ffn2Ideal.nD Cert.Ffn2Ideal.τ).loc Cert.Ffn2Ideal.main_arg4)
      ∧ m' ((c.tc : Thread Cert.RefFfn2Ideal.nD Cert.RefFfn2Ideal.τ).loc Cert.RefFfn2Ideal.main_arg5) = m ((c.tc : Thread Cert.Ffn2Ideal.nD Cert.Ffn2Ideal.τ).loc Cert.Ffn2Ideal.main_arg5)) →
    ∃ (v0 : (c : Dev Cert.Ffn2Ideal.nD) → Buf (Elt Ideal) ((c.tc : Thread Cert.Ffn2Ideal.nD Cert.Ffn2Ideal.τ).loc Cert.Ffn2Ideal.main_v6)),
      θ_run (Cert.Ffn2Ideal.defs (F := Ideal)) (onTc (τ := Cert.Ffn2Ideal.τ) (Cert.Ffn2Ideal.main (F := Ideal))) ⟨m, fun _ => 0, g⟩ (fun r => ∀ c : Dev Cert.Ffn2Ideal.nD,
          r.2.mem ((c.tc : Thread Cert.Ffn2Ideal.nD Cert.Ffn2Ideal.τ).loc Cert.Ffn2Ideal.main_v6) = v0 c
          ∧ r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
          ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
          ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2)
          ∧ r.2.mem ((c.tc : Thread Cert.Ffn2Ideal.nD Cert.Ffn2Ideal.τ).loc Cert.Ffn2Ideal.main_arg3) = m ((c.tc : Thread Cert.Ffn2Ideal.nD Cert.Ffn2Ideal.τ).loc Cert.Ffn2Ideal.main_arg3)
          ∧ r.2.mem ((c.tc : Thread Cert.Ffn2Ideal.nD Cert.Ffn2Ideal.τ).loc Cert.Ffn2Ideal.main_arg4) = m ((c.tc : Thread Cert.Ffn2Ideal.nD Cert.Ffn2Ideal.τ).loc Cert.Ffn2Ideal.main_arg4)
          ∧ r.2.mem ((c.tc : Thread Cert.Ffn2Ideal.nD Cert.Ffn2Ideal.τ).loc Cert.Ffn2Ideal.main_arg5) = m ((c.tc : Thread Cert.Ffn2Ideal.nD Cert.Ffn2Ideal.τ).loc Cert.Ffn2Ideal.main_arg5))
      ∧ θ_run (Cert.RefFfn2Ideal.defs (F := Ideal)) (onTc (τ := Cert.RefFfn2Ideal.τ) (Cert.RefFfn2Ideal.main (F := Ideal))) ⟨m', fun _ => 0, g'⟩ (fun r => ∀ c : Dev Cert.RefFfn2Ideal.nD,
          r.2.mem ((c.tc : Thread Cert.RefFfn2Ideal.nD Cert.RefFfn2Ideal.τ).loc Cert.RefFfn2Ideal.main_v37) = v0 c
          ∧ r.2.mem ((c.tc : Thread Cert.RefFfn2Ideal.nD Cert.RefFfn2Ideal.τ).loc Cert.RefFfn2Ideal.main_arg0) = m' ((c.tc : Thread Cert.RefFfn2Ideal.nD Cert.RefFfn2Ideal.τ).loc Cert.RefFfn2Ideal.main_arg0)
          ∧ r.2.mem ((c.tc : Thread Cert.RefFfn2Ideal.nD Cert.RefFfn2Ideal.τ).loc Cert.RefFfn2Ideal.main_arg1) = m' ((c.tc : Thread Cert.RefFfn2Ideal.nD Cert.RefFfn2Ideal.τ).loc Cert.RefFfn2Ideal.main_arg1)
          ∧ r.2.mem ((c.tc : Thread Cert.RefFfn2Ideal.nD Cert.RefFfn2Ideal.τ).loc Cert.RefFfn2Ideal.main_arg2) = m' ((c.tc : Thread Cert.RefFfn2Ideal.nD Cert.RefFfn2Ideal.τ).loc Cert.RefFfn2Ideal.main_arg2)
          ∧ r.2.mem ((c.tc : Thread Cert.RefFfn2Ideal.nD Cert.RefFfn2Ideal.τ).loc Cert.RefFfn2Ideal.main_arg3) = m' ((c.tc : Thread Cert.RefFfn2Ideal.nD Cert.RefFfn2Ideal.τ).loc Cert.RefFfn2Ideal.main_arg3)
          ∧ r.2.mem ((c.tc : Thread Cert.RefFfn2Ideal.nD Cert.RefFfn2Ideal.τ).loc Cert.RefFfn2Ideal.main_arg4) = m' ((c.tc : Thread Cert.RefFfn2Ideal.nD Cert.RefFfn2Ideal.τ).loc Cert.RefFfn2Ideal.main_arg4)
          ∧ r.2.mem ((c.tc : Thread Cert.RefFfn2Ideal.nD Cert.RefFfn2Ideal.τ).loc Cert.RefFfn2Ideal.main_arg5) = m' ((c.tc : Thread Cert.RefFfn2Ideal.nD Cert.RefFfn2Ideal.τ).loc Cert.RefFfn2Ideal.main_arg5))

def Claim : Prop :=
  ∃ (hKernel : Cert.Kernel.Facts) (hKernelIdeal : Cert.KernelIdeal.Facts) (hFfn1 : Cert.Ffn1.Facts) (hFfn1Ideal : Cert.Ffn1Ideal.Facts) (hRefFfn1Ideal : Cert.RefFfn1Ideal.Facts) (hFfn2 : Cert.Ffn2.Facts) (hFfn2Ideal : Cert.Ffn2Ideal.Facts) (hRefFfn2Ideal : Cert.RefFfn2Ideal.Facts) (hPre_ffn1_gate_finite : Cert.Pre_ffn1_gate_finite.Facts) (hPre_ffn2_gate_finite : Cert.Pre_ffn2_gate_finite.Facts),
    quiescent_Kernel (hKernel := hKernel)
    ∧ quiescent_KernelIdeal (hKernelIdeal := hKernelIdeal)
    ∧ quiescent_Ffn1 (hFfn1 := hFfn1)
    ∧ quiescent_Ffn1Ideal (hFfn1Ideal := hFfn1Ideal)
    ∧ quiescent_Ffn1Ideal_pre_ffn1_gate_finite (hFfn1Ideal := hFfn1Ideal) (hPre_ffn1_gate_finite := hPre_ffn1_gate_finite)
    ∧ quiescent_RefFfn1Ideal (hRefFfn1Ideal := hRefFfn1Ideal)
    ∧ quiescent_RefFfn1Ideal_pre_ffn1_gate_finite (hRefFfn1Ideal := hRefFfn1Ideal) (hPre_ffn1_gate_finite := hPre_ffn1_gate_finite)
    ∧ quiescent_Ffn2 (hFfn2 := hFfn2)
    ∧ quiescent_Ffn2Ideal (hFfn2Ideal := hFfn2Ideal)
    ∧ quiescent_Ffn2Ideal_pre_ffn2_gate_finite (hFfn2Ideal := hFfn2Ideal) (hPre_ffn2_gate_finite := hPre_ffn2_gate_finite)
    ∧ quiescent_RefFfn2Ideal (hRefFfn2Ideal := hRefFfn2Ideal)
    ∧ quiescent_RefFfn2Ideal_pre_ffn2_gate_finite (hRefFfn2Ideal := hRefFfn2Ideal) (hPre_ffn2_gate_finite := hPre_ffn2_gate_finite)
    ∧ preserves_Kernel_KernelIdeal
    ∧ preserves_Ffn1_Ffn1Ideal
    ∧ algebraic_Ffn1Ideal_RefFfn1Ideal_pre_ffn1_gate_finite (hFfn1Ideal := hFfn1Ideal) (hRefFfn1Ideal := hRefFfn1Ideal) (hPre_ffn1_gate_finite := hPre_ffn1_gate_finite)
    ∧ preserves_Ffn2_Ffn2Ideal
    ∧ algebraic_Ffn2Ideal_RefFfn2Ideal_pre_ffn2_gate_finite (hFfn2Ideal := hFfn2Ideal) (hRefFfn2Ideal := hRefFfn2Ideal) (hPre_ffn2_gate_finite := hPre_ffn2_gate_finite)
-- ==== Pre_ffn1_gate_finite.lean ====
abbrev S8x2048x1024 : Shape := ⟨3, ![8, 2048, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S_ : Shape := ⟨0, ![]⟩

class Facts : Prop where
  bcast_S_S1x1024 : S_.BroadcastsInDim S1x1024 (![] : Fin 0 → Fin S1x1024.rank)
  bcast_S_S1x1024x2816 : S_.BroadcastsInDim S1x1024x2816 (![] : Fin 0 → Fin S1x1024x2816.rank)

variable [Facts]

def fn {F : FTy → Type} [FloatOps F] (main_arg0 : FVec F S8x2048x1024 .f32) (main_arg1 : FVec F S1x1024 .f32) (main_arg2 : FVec F S1x1024x2816 .f32) (main_arg3 : FVec F S1x1024x2816 .f32) (main_arg4 : FVec F S1x2816x1024 .f32) : IVec S1x1024 1 × IVec S1x1024x2816 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_v3 : FVec F S1x1024x2816 .f32 := Host.absf main_arg2
  let main_cst_0 : FVec F S_ .f32 := constant S_ .f32 0x7F800000#32
  let main_v4 : FVec F S1x1024x2816 .f32 := broadcastInDim S1x1024x2816 ![] bcast_S_S1x1024x2816 main_cst_0
  let main_v5 : IVec S1x1024x2816 1 := cmpf .olt main_v3 main_v4
  (main_v2, main_v5)
-- ==== Pre_ffn2_gate_finite.lean ====
abbrev S16384x1024 : Shape := ⟨2, ![16384, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩

class Facts : Prop where
  bcast_S_S1x1024 : S_.BroadcastsInDim S1x1024 (![] : Fin 0 → Fin S1x1024.rank)
  bcast_S_S1x1024x2816 : S_.BroadcastsInDim S1x1024x2816 (![] : Fin 0 → Fin S1x1024x2816.rank)

variable [Facts]

def fn {F : FTy → Type} [FloatOps F] (main_arg0 : FVec F S16384x1024 .f32) (main_arg1 : FVec F S1x1024 .f32) (main_arg2 : FVec F S1x1024x2816 .f32) (main_arg3 : FVec F S1x1024x2816 .f32) (main_arg4 : FVec F S1x2816x1024 .f32) (main_arg5 : FVec F S1024 .f32) : IVec S1x1024 1 × IVec S1x1024x2816 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_v3 : FVec F S1x1024x2816 .f32 := Host.absf main_arg2
  let main_cst_0 : FVec F S_ .f32 := constant S_ .f32 0x7F800000#32
  let main_v4 : FVec F S1x1024x2816 .f32 := broadcastInDim S1x1024x2816 ![] bcast_S_S1x1024x2816 main_cst_0
  let main_v5 : IVec S1x1024x2816 1 := cmpf .olt main_v3 main_v4
  (main_v2, main_v5)
-- ==== Kernel.lean ====
abbrev S16384x1024 : Shape := ⟨2, ![16384, 1024]⟩
abbrev S1x1024 : Shape := ⟨2, ![1, 1024]⟩
abbrev S1x1024x3600 : Shape := ⟨3, ![1, 1024, 3600]⟩
abbrev S1x4x1536 : Shape := ⟨3, ![1, 4, 1536]⟩
abbrev S1x1536 : Shape := ⟨2, ![1, 1536]⟩
abbrev S1x16 : Shape := ⟨2, ![1, 16]⟩
abbrev S1x4x256x256 : Shape := ⟨4, ![1, 4, 256, 256]⟩
abbrev S1x2048x1024 : Shape := ⟨3, ![1, 2048, 1024]⟩
abbrev S1024 : Shape := ⟨1, ![1024]⟩
abbrev S1024x3600 : Shape := ⟨2, ![1024, 3600]⟩
abbrev S3600x1024 : Shape := ⟨2, ![3600, 1024]⟩
abbrev S2048x1024 : Shape := ⟨2, ![2048, 1024]⟩
abbrev S4x256x256 : Shape := ⟨3, ![4, 256, 256]⟩
abbrev S4x1536 : Shape := ⟨2, ![4, 1536]⟩
abbrev S1536 : Shape := ⟨1, ![1536]⟩
abbrev S16 : Shape := ⟨1, ![16]⟩
abbrev S1x1x1x16 : Shape := ⟨4, ![1, 1, 1, 16]⟩
abbrev S1x1x8x16 : Shape := ⟨4, ![1, 1, 8, 16]⟩
abbrev S1x128 : Shape := ⟨2, ![1, 128]⟩
abbrev S16x64 : Shape := ⟨2, ![16, 64]⟩
abbrev S128x2048 : Shape := ⟨2, ![128, 2048]⟩
abbrev S_ : Shape := ⟨0, ![]⟩
abbrev S512x1024 : Shape := ⟨2, ![512, 1024]⟩
abbrev S256x1024 : Shape := ⟨2, ![256, 1024]⟩
abbrev S1x256x256 : Shape := ⟨3, ![1, 256, 256]⟩
abbrev S1024x1024 : Shape := ⟨2, ![1024, 1024]⟩
abbrev S1024x1536 : Shape := ⟨2, ![1024, 1536]⟩
abbrev S1024x1152 : Shape := ⟨2, ![1024, 1152]⟩
abbrev S520x1536 : Shape := ⟨2, ![520, 1536]⟩
abbrev S528x1024 : Shape := ⟨2, ![528, 1024]⟩
abbrev S2x128x512 : Shape := ⟨3, ![2, 128, 512]⟩
abbrev S512x512 : Shape := ⟨2, ![512, 512]⟩
abbrev S512x2048 : Shape := ⟨2, ![512, 2048]⟩
abbrev S1024x256 : Shape := ⟨2, ![1024, 256]⟩
abbrev S256x256 : Shape := ⟨2, ![256, 256]⟩
abbrev S1x256 : Shape := ⟨2, ![1, 256]⟩
abbrev S1024x128 : Shape := ⟨2, ![1024, 128]⟩
abbrev S8x1536 : Shape := ⟨2, ![8, 1536]⟩
abbrev S16x1024 : Shape := ⟨2, ![16, 1024]⟩
abbrev S512 : Shape := ⟨1, ![512]⟩
abbrev S512x1 : Shape := ⟨2, ![512, 1]⟩
abbrev S512x1536 : Shape := ⟨2, ![512, 1536]⟩
abbrev S512x1152 : Shape := ⟨2, ![512, 1152]⟩
abbrev S512x128 : Shape := ⟨2, ![512, 128]⟩
abbrev S64x128 : Shape := ⟨2, ![64, 128]⟩
abbrev S8x128 : Shape := ⟨2, ![8, 128]⟩
abbrev S64x256 : Shape := ⟨2, ![64, 256]⟩
abbrev S128x128 : Shape := ⟨2, ![128, 128]⟩
abbrev S128x256 : Shape := ⟨2, ![128, 256]⟩
abbrev S128x64 : Shape := ⟨2, ![128, 64]⟩
abbrev S1x128x256 : Shape := ⟨3, ![1, 128, 256]⟩
abbrev S128 : Shape := ⟨1, ![128]⟩
abbrev S528x256 : Shape := ⟨2, ![528, 256]⟩
abbrev S512x256 : Shape := ⟨2, ![512, 256]⟩

abbrev nBuf : Space → Nat
  | .hbm => 62
  | .vmem => 33
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024x3600, .f32⟩
  | .hbm, ⟨3, _⟩ => ⟨S1x4x1536, .f32⟩
  | .hbm, ⟨4, _⟩ => ⟨S1x1536, .f32⟩
  | .hbm, ⟨5, _⟩ => ⟨S1x16, .f32⟩
  | .hbm, ⟨6, _⟩ => ⟨S1x16, .f32⟩
  | .hbm, ⟨7, _⟩ => ⟨S1x16, .f32⟩
  | .hbm, ⟨8, _⟩ => ⟨S1x1024, .f32⟩
  | .hbm, ⟨9, _⟩ => ⟨S1x4x256x256, .f32⟩
  | .hbm, ⟨10, _⟩ => ⟨S1x1024, .f32⟩
  | .hbm, ⟨11, _⟩ => ⟨S1x2048x1024, .f32⟩
  | .hbm, ⟨12, _⟩ => ⟨S1024, .f32⟩
  | .hbm, ⟨13, _⟩ => ⟨S1x1024, .f32⟩
  | .hbm, ⟨14, _⟩ => ⟨S1024x3600, .f32⟩
  | .hbm, ⟨15, _⟩ => ⟨S3600x1024, .f32⟩
  | .hbm, ⟨16, _⟩ => ⟨S2048x1024, .f32⟩
  | .hbm, ⟨17, _⟩ => ⟨S4x256x256, .f32⟩
  | .hbm, ⟨18, _⟩ => ⟨S4x1536, .f32⟩
  | .hbm, ⟨19, _⟩ => ⟨S1536, .f32⟩
  | .hbm, ⟨20, _⟩ => ⟨S1x1536, .f32⟩
  | .hbm, ⟨21, _⟩ => ⟨S16, .f32⟩
  | .hbm, ⟨22, _⟩ => ⟨S1x16, .f32⟩
  | .hbm, ⟨23, _⟩ => ⟨S1x1x1x16, .f32⟩
  | .hbm, ⟨24, _⟩ => ⟨S1x1x8x16, .f32⟩
  | .hbm, ⟨25, _⟩ => ⟨S1x128, .f32⟩
  | .hbm, ⟨26, _⟩ => ⟨S16, .f32⟩
  | .hbm, ⟨27, _⟩ => ⟨S1x16, .f32⟩
  | .hbm, ⟨28, _⟩ => ⟨S1x1x1x16, .f32⟩
  | .hbm, ⟨29, _⟩ => ⟨S1x1x8x16, .f32⟩
  | .hbm, ⟨30, _⟩ => ⟨S1x128, .f32⟩
  | .hbm, ⟨31, _⟩ => ⟨S16, .f32⟩
  | .hbm, ⟨32, _⟩ => ⟨S16x64, .f32⟩
  | .hbm, ⟨33, _⟩ => ⟨S1024, .f32⟩
  | .hbm, ⟨34, _⟩ => ⟨S1x1024, .f32⟩
  | .hbm, ⟨35, _⟩ => ⟨S1024, .f32⟩
  | .hbm, ⟨36, _⟩ => ⟨S1x1024, .f32⟩
  | .hbm, ⟨37, _⟩ => ⟨S1024, .f32⟩
  | .hbm, ⟨38, _⟩ => ⟨S1x1024, .f32⟩
  | .hbm, ⟨39, _⟩ => ⟨S128x2048, .i32⟩
  | .hbm, ⟨40, _⟩ => ⟨S128x2048, .i32⟩
  | .hbm, ⟨41, _⟩ => ⟨S_, .i32⟩
  | .hbm, ⟨42, _⟩ => ⟨S128x2048, .i32⟩
  | .hbm, ⟨43, _⟩ => ⟨S128x2048, .i32⟩
  | .hbm, ⟨44, _⟩ => ⟨S_, .i32⟩
  | .hbm, ⟨45, _⟩ => ⟨S128x2048, .i32⟩
  | .hbm, ⟨46, _⟩ => ⟨S128x2048, .i32⟩
  | .hbm, ⟨47, _⟩ => ⟨S_, .i32⟩
  | .hbm, ⟨48, _⟩ => ⟨S128x2048, .i32⟩
  | .hbm, ⟨49, _⟩ => ⟨S128x2048, .i32⟩
  | .hbm, ⟨50, _⟩ => ⟨S128x2048, .i32⟩
  | .hbm, ⟨51, _⟩ => ⟨S_, .i32⟩
  | .hbm, ⟨52, _⟩ => ⟨S128x2048, .i32⟩
  | .hbm, ⟨53, _⟩ => ⟨S128x2048, .i32⟩
  | .hbm, ⟨54, _⟩ => ⟨S128x2048, .i1⟩
  | .hbm, ⟨55, _⟩ => ⟨S_, .f32⟩
  | .hbm, ⟨56, _⟩ => ⟨S_, .f32⟩
  | .hbm, ⟨57, _⟩ => ⟨S128x2048, .f32⟩
  | .hbm, ⟨58, _⟩ => ⟨S128x2048, .f32⟩
  | .hbm, ⟨59, _⟩ => ⟨S128x2048, .f32⟩
  | .hbm, ⟨60, _⟩ => ⟨S128x2048, .bf16⟩
  | .hbm, ⟨61, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x256x256, .f32⟩
  | .local _ .vmem, ⟨10, _⟩ => ⟨S1x256x256, .f32⟩
  | .local _ .vmem, ⟨11, _⟩ => ⟨S4x1536, .f32⟩
  | .local _ .vmem, ⟨12, _⟩ => ⟨S1x1536, .f32⟩
  | .local _ .vmem, ⟨13, _⟩ => ⟨S1x128, .f32⟩
  | .local _ .vmem, ⟨14, _⟩ => ⟨S1x128, .f32⟩
  | .local _ .vmem, ⟨15, _⟩ => ⟨S1x1024, .f32⟩
  | .local _ .vmem, ⟨16, _⟩ => ⟨S1x1024, .f32⟩
  | .local _ .vmem, ⟨17, _⟩ => ⟨S128x2048, .bf16⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | .local _ .vmem, ⟨21, _⟩ => ⟨S1024x1024, .bf16⟩
  | .local _ .vmem, ⟨22, _⟩ => ⟨S1024x1536, .bf16⟩
  | .local _ .vmem, ⟨23, _⟩ => ⟨S1024x1152, .bf16⟩
  | .local _ .vmem, ⟨24, _⟩ => ⟨S2048x1024, .bf16⟩
  | .local _ .vmem, ⟨25, _⟩ => ⟨S520x1536, .f32⟩
  | .local _ .vmem, ⟨26, _⟩ => ⟨S528x1024, .f32⟩
  | .local _ .vmem, ⟨27, _⟩ => ⟨S2x128x512, .f32⟩
  | .local _ .vmem, ⟨28, _⟩ => ⟨S512x1024, .f32⟩
  | .local _ .vmem, ⟨29, _⟩ => ⟨S512x1024, .f32⟩
  | .local _ .vmem, ⟨30, _⟩ => ⟨S512x512, .f32⟩
  | .local _ .vmem, ⟨31, _⟩ => ⟨S512x2048, .f32⟩
  | .local _ .vmem, ⟨32, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c : Ref sig .tc := ⟨.hbm, 41, rfl⟩
abbrev main_v29 : Ref sig .tc := ⟨.hbm, 42, rfl⟩
abbrev main_v30 : Ref sig .tc := ⟨.hbm, 43, rfl⟩
abbrev main_c_0 : Ref sig .tc := ⟨.hbm, 44, rfl⟩
abbrev main_v31 : Ref sig .tc := ⟨.hbm, 45, rfl⟩
abbrev main_v32 : Ref sig .tc := ⟨.hbm, 46, rfl⟩
abbrev main_c_1 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_2 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst : Ref sig .tc := ⟨.hbm, 55, rfl⟩
abbrev main_cst_3 : Ref sig .tc := ⟨.hbm, 56, rfl⟩
abbrev main_call0_v0 : Ref sig .tc := ⟨.hbm, 57, rfl⟩
abbrev main_call0_v1 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_scratch6 : Ref sig .tc := ⟨.vmem, 27, rfl⟩
abbrev cc0_scratch7 : Ref sig .tc := ⟨.vmem, 28, rfl⟩
abbrev cc0_scratch8 : Ref sig .tc := ⟨.vmem, 29, rfl⟩
abbrev cc0_scratch9 : Ref sig .tc := ⟨.vmem, 30, rfl⟩
abbrev cc0_scratch10 : Ref sig .tc := ⟨.vmem, 31, rfl⟩
abbrev cc0_scratch11 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![43], ![false]⟩

def k0_mult1 (i : grid0.Coords) : BitVec 32 :=
  let c2576_i32 : BitVec 32 := 2576#32
  let arg0 : BitVec 32 := BitVec.ofNat 32 (i 0).val
  let c3_i32 : BitVec 32 := 3#32
  let v0 : BitVec 32 := Scalar.minsi arg0 c3_i32
  let c256_i32 : BitVec 32 := 256#32
  let v1 : BitVec 32 := Scalar.muli v0 c256_i32
  let v2 : BitVec 32 := Scalar.addi c2576_i32 v1
  v2
def k0_cond12 (i : grid0.Coords) : BitVec 1 :=
  let arg0 : BitVec 32 := BitVec.ofNat 32 (i 0).val
  let c11_i32 : BitVec 32 := 11#32
  let v33 : BitVec 1 := Scalar.cmpi .sge arg0 c11_i32
  let v34 : BitVec 32 := Scalar.extui v33
  let c0_i32_11 : BitVec 32 := 0#32
  let v35 : BitVec 1 := Scalar.cmpi .ne v34 c0_i32_11
  v35

def cc0_transform_0 (i : grid0.Coords) : Fin 2 → Nat :=
  let arg0 : BitVec 32 := BitVec.ofNat 32 (i 0).val
  let c11_i32 : BitVec 32 := 11#32
  let v0 : BitVec 32 := Scalar.subi arg0 c11_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c3_i32 : BitVec 32 := 3#32
  let v0 : BitVec 32 := Scalar.minsi arg0 c3_i32
  let c256_i32 : BitVec 32 := 256#32
  let v1 : BitVec 32 := Scalar.muli v0 c256_i32
  let c2576_i32 : BitVec 32 := 2576#32
  let v2 : BitVec 32 := Scalar.addi c2576_i32 v1
  let v3 : BitVec 32 := v2
  let c0_i32 : BitVec 32 := 0#32
  let c0_i32_0 : BitVec 32 := 0#32
  ![v3.toNat, c0_i32.toNat]

def cc0_transform_4 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_5 (i : grid0.Coords) : Fin 3 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c11_i32 : BitVec 32 := 11#32
  let v0 : BitVec 32 := Scalar.subi arg0 c11_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Ffn1.lean ====
abbrev S8x2048x1024 : Shape := ⟨3, ![8, 2048, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S_ : Shape := ⟨0, ![]⟩
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S1024x1024 : Shape := ⟨2, ![1024, 1024]⟩
abbrev S1024x256 : Shape := ⟨2, ![1024, 256]⟩
abbrev S256x1024 : Shape := ⟨2, ![256, 1024]⟩
abbrev S11x1024x256 : Shape := ⟨3, ![11, 1024, 256]⟩
abbrev S1x1024x256 : Shape := ⟨3, ![1, 1024, 256]⟩
abbrev S1024x1 : Shape := ⟨2, ![1024, 1]⟩

abbrev nBuf : Space → Nat
  | .hbm => 14
  | .vmem => 16
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S_, .f32⟩
  | .hbm, ⟨6, _⟩ => ⟨S1x1024, .f32⟩
  | .hbm, ⟨7, _⟩ => ⟨S16384x1024, .f32⟩
  | .hbm, ⟨8, _⟩ => ⟨S1024, .f32⟩
  | .hbm, ⟨9, _⟩ => ⟨S1x1024, .f32⟩
  | .hbm, ⟨10, _⟩ => ⟨S1024x2816, .f32⟩
  | .hbm, ⟨11, _⟩ => ⟨S1024x2816, .f32⟩
  | .hbm, ⟨12, _⟩ => ⟨S2816x1024, .f32⟩
  | .hbm, ⟨13, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S11x1024x256, .bf16⟩
  | .local _ .vmem, ⟨13, _⟩ => ⟨S11x1024x256, .bf16⟩
  | .local _ .vmem, ⟨14, _⟩ => ⟨S2816x1024, .bf16⟩
  | .local _ .vmem, ⟨15, _⟩ => ⟨S1024x2816, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![27], ![false]⟩

def k0_cond1 (i : grid0.Coords) : BitVec 1 :=
  let arg0 : BitVec 32 := BitVec.ofNat 32 (i 0).val
  let c11_i32 : BitVec 32 := 11#32
  let v0 : BitVec 1 := Scalar.cmpi .slt arg0 c11_i32
  let v1 : BitVec 32 := Scalar.extui v0
  let c0_i32 : BitVec 32 := 0#32
  let v2 : BitVec 1 := Scalar.cmpi .ne v1 c0_i32
  v2

def k0_off1 (i : grid0.Coords) : Fin 3 → Nat :=
  let arg0 : BitVec 32 := BitVec.ofNat 32 (i 0).val
  let v9 : Index := Scalar.indexCast arg0
  let c0_3 : Index := 0#32
  let c0_4 : Index := 0#32
  ![v9.toNat, 0, 0]
def k0_mult1 (i : grid0.Coords) : BitVec 32 :=
  let arg0 : BitVec 32 := BitVec.ofNat 32 (i 0).val
  let c256_i32 : BitVec 32 := 256#32
  let v23 : BitVec 32 := Scalar.muli arg0 c256_i32
  v23
def k0_off2 (i : grid0.Coords) : Fin 2 → Nat :=
  let arg0 : BitVec 32 := BitVec.ofNat 32 (i 0).val
  let c256_i32 : BitVec 32 := 256#32
  let v23 : BitVec 32 := Scalar.muli arg0 c256_i32
  let v24 : BitVec 32 := v23
  let v25 : Index := Scalar.indexCast v24
  let c0_11 : Index := 0#32
  ![v25.toNat, 0]
def k0_cond2 (i : grid0.Coords) : BitVec 1 :=
  let arg0 : BitVec 32 := BitVec.ofNat 32 (i 0).val
  let c11_i32_0 : BitVec 32 := 11#32
  let v3 : BitVec 1 := Scalar.cmpi .sge arg0 c11_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c11_i32 : BitVec 32 := 11#32
  let v0 : BitVec 32 := Scalar.subi arg0 c11_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c11_i32 : BitVec 32 := 11#32
  let v0 : BitVec 32 := Scalar.subi arg0 c11_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefFfn1Ideal.lean ====
abbrev S8x2048x1024 : Shape := ⟨3, ![8, 2048, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x2816 : Shape := ⟨2, ![1024, 2816]⟩
abbrev S2816x1024 : Shape := ⟨2, ![2816, 1024]⟩
abbrev S8x2048x2816 : Shape := ⟨3, ![8, 2048, 2816]⟩
abbrev S16384x1024 : Shape := ⟨2, ![16384, 1024]⟩

abbrev nBuf : Space → Nat
  | .hbm => 43
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S8x2048x1024, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x1024, .f32⟩
  | .hbm, ⟨18, _⟩ => ⟨S8x2048x1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S1024x2816, .f32⟩
  | .hbm, ⟨23, _⟩ => ⟨S1024x2816, .f32⟩
  | .hbm, ⟨24, _⟩ => ⟨S2816x1024, .f32⟩
  | .hbm, ⟨25, _⟩ => ⟨S8x2048x2816, .f32⟩
  | .hbm, ⟨26, _⟩ => ⟨S8x2048x2816, .f32⟩
  | .hbm, ⟨27, _⟩ => ⟨S8x2048x2816, .f32⟩
  | .hbm, ⟨28, _⟩ => ⟨S_, .f32⟩
  | .hbm, ⟨29, _⟩ => ⟨S8x2048x2816, .f32⟩
  | .hbm, ⟨30, _⟩ => ⟨S8x2048x2816, .f32⟩
  | .hbm, ⟨31, _⟩ => ⟨S_, .f32⟩
  | .hbm, ⟨32, _⟩ => ⟨S8x2048x2816, .f32⟩
  | .hbm, ⟨33, _⟩ => ⟨S8x2048x2816, .f32⟩
  | .hbm, ⟨34, _⟩ => ⟨S8x2048x2816, .f32⟩
  | .hbm, ⟨35, _⟩ => ⟨S8x2048x2816, .f32⟩
  | .hbm, ⟨36, _⟩ => ⟨S8x2048x2816, .f32⟩
  | .hbm, ⟨37, _⟩ => ⟨S8x2048x1024, .f32⟩
  | .hbm, ⟨38, _⟩ => ⟨S_, .f32⟩
  | .hbm, ⟨39, _⟩ => ⟨S8x2048x1024, .f32⟩
  | .hbm, ⟨40, _⟩ => ⟨S8x2048x1024, .f32⟩
  | .hbm, ⟨41, _⟩ => ⟨S8x2048x1024, .f32⟩
  | .hbm, ⟨42, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩

abbrev nD : Nat := 1
abbrev τ : Topo := Topo.v7x

variable {F : FTy → Type} [FloatOps F]
-- ==== Ffn2.lean ====
abbrev S16384x1024 : Shape := ⟨2, ![16384, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x2816 : Shape := ⟨2, ![1024, 2816]⟩
abbrev S2816x1024 : Shape := ⟨2, ![2816, 1024]⟩
abbrev S1024x1024 : Shape := ⟨2, ![1024, 1024]⟩
abbrev S1024x256 : Shape := ⟨2, ![1024, 256]⟩
abbrev S256x1024 : Shape := ⟨2, ![256, 1024]⟩
abbrev S11x1024x256 : Shape := ⟨3, ![11, 1024, 256]⟩
abbrev S1x1024x256 : Shape := ⟨3, ![1, 1024, 256]⟩
abbrev S1024x1 : Shape := ⟨2, ![1024, 1]⟩

abbrev nBuf : Space → Nat
  | .hbm => 13
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S1024, .f32⟩
  | .hbm, ⟨7, _⟩ => ⟨S1x1024, .f32⟩
  | .hbm, ⟨8, _⟩ => ⟨S1024x2816, .f32⟩
  | .hbm, ⟨9, _⟩ => ⟨S1024x2816, .f32⟩
  | .hbm, ⟨10, _⟩ => ⟨S2816x1024, .f32⟩
  | .hbm, ⟨11, _⟩ => ⟨S1x1024, .f32⟩
  | .hbm, ⟨12, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S11x1024x256, .bf16⟩
  | .local _ .vmem, ⟨13, _⟩ => ⟨S11x1024x256, .bf16⟩
  | .local _ .vmem, ⟨14, _⟩ => ⟨S2816x1024, .bf16⟩
  | .local _ .vmem, ⟨15, _⟩ => ⟨S1024x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![27], ![false]⟩

def k0_cond1 (i : grid0.Coords) : BitVec 1 :=
  let arg0 : BitVec 32 := BitVec.ofNat 32 (i 0).val
  let c11_i32 : BitVec 32 := 11#32
  let v0 : BitVec 1 := Scalar.cmpi .slt arg0 c11_i32
  let v1 : BitVec 32 := Scalar.extui v0
  let c0_i32 : BitVec 32 := 0#32
  let v2 : BitVec 1 := Scalar.cmpi .ne v1 c0_i32
  v2

def k0_off1 (i : grid0.Coords) : Fin 3 → Nat :=
  let arg0 : BitVec 32 := BitVec.ofNat 32 (i 0).val
  let v9 : Index := Scalar.indexCast arg0
  let c0_3 : Index := 0#32
  let c0_4 : Index := 0#32
  ![v9.toNat, 0, 0]
def k0_mult1 (i : grid0.Coords) : BitVec 32 :=
  let arg0 : BitVec 32 := BitVec.ofNat 32 (i 0).val
  let c256_i32 : BitVec 32 := 256#32
  let v23 : BitVec 32 := Scalar.muli arg0 c256_i32
  v23
def k0_off2 (i : grid0.Coords) : Fin 2 → Nat :=
  let arg0 : BitVec 32 := BitVec.ofNat 32 (i 0).val
  let c256_i32 : BitVec 32 := 256#32
  let v23 : BitVec 32 := Scalar.muli arg0 c256_i32
  let v24 : BitVec 32 := v23
  let v25 : Index := Scalar.indexCast v24
  let c0_11 : Index := 0#32
  ![v25.toNat, 0]
def k0_cond2 (i : grid0.Coords) : BitVec 1 :=
  let arg0 : BitVec 32 := BitVec.ofNat 32 (i 0).val
  let c11_i32_0 : BitVec 32 := 11#32
  let v3 : BitVec 1 := Scalar.cmpi .sge arg0 c11_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c11_i32 : BitVec 32 := 11#32
  let v0 : BitVec 32 := Scalar.subi arg0 c11_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c11_i32 : BitVec 32 := 11#32
  let v0 : BitVec 32 := Scalar.subi arg0 c11_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefFfn2Ideal.lean ====
abbrev S16384x1024 : Shape := ⟨2, ![16384, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x2816 : Shape := ⟨2, ![1024, 2816]⟩
abbrev S2816x1024 : Shape := ⟨2, ![2816, 1024]⟩
abbrev S16384x2816 : Shape := ⟨2, ![16384, 2816]⟩

abbrev nBuf : Space → Nat
  | .hbm => 59
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S1024x2816, .f32⟩
  | .hbm, ⟨24, _⟩ => ⟨S1024x2816, .f32⟩
  | .hbm, ⟨25, _⟩ => ⟨S2816x1024, .f32⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S_, .f32⟩
  | .hbm, ⟨30, _⟩ => ⟨S16384x2816, .f32⟩
  | .hbm, ⟨31, _⟩ => ⟨S16384x2816, .f32⟩
  | .hbm, ⟨32, _⟩ => ⟨S_, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S16384x2816, .f32⟩
  | .hbm, ⟨37, _⟩ => ⟨S16384x2816, .f32⟩
  | .hbm, ⟨38, _⟩ => ⟨S16384x1024, .f32⟩
  | .hbm, ⟨39, _⟩ => ⟨S_, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S16384, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S16384x1, .f32⟩
  | .hbm, ⟨54, _⟩ => ⟨S16384x1024, .f32⟩
  | .hbm, ⟨55, _⟩ => ⟨S16384x1024, .f32⟩
  | .hbm, ⟨56, _⟩ => ⟨S1x1024, .f32⟩
  | .hbm, ⟨57, _⟩ => ⟨S16384x1024, .f32⟩
  | .hbm, ⟨58, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩

abbrev nD : Nat := 1
abbrev τ : Topo := Topo.v7x

variable {F : FTy → Type} [FloatOps F]
-- ==== Proof.MixBase.lean ====
module

public import proofs.«01_k».proof.Proof.Gen.KernelIdeal.Frame
public import proofs.«01_k».proof.Proof.Gen.KernelIdeal.Skeleton

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branches of the body -/

/-- The test by which the body recognises the weight staging step `k`. -/
abbrev isStep (i : grid0.Coords) (k : BitVec 32) : Prop :=
  (Scalar.cmpi .ne (Scalar.extui (Scalar.cmpi .eq (BitVec.ofNat 32 (i 0).val) k)) 0#32) = 1#1

/-- The test holds exactly at the grid point of that number. -/
theorem isStep_iff (i : grid0.Coords) (k : ℕ) (hk : k < 43) : isStep i (BitVec.ofNat 32 k) ↔ (i 0).val = k := by
  have h : ∀ a b : Fin 43, ((Scalar.cmpi .ne (Scalar.extui (Scalar.cmpi .eq (BitVec.ofNat 32 a.val) (BitVec.ofNat 32 b.val))) 0#32) = 1#1) ↔ a.val = b.val := by
    decide +kernel
  exact h (i 0) ⟨k, hk⟩

/-- A grid point of another number fails the test. -/
theorem not_isStep (i : grid0.Coords) (k : ℕ) (hk : k < 43) (h : (i 0).val ≠ k) : ¬ isStep i (BitVec.ofNat 32 k) :=
  fun hs => h ((isStep_iff i k hk).mp hs)

/-- The body works on a tile of activations from point 11 on. -/
theorem isTile_iff (i : grid0.Coords) : k0_cond12 i = 1#1 ↔ 11 ≤ (i 0).val := by
  have h : ∀ i : grid0.Coords, k0_cond12 i = 1#1 ↔ 11 ≤ (i 0).val := by decide +kernel
  exact h i

/-- What the body is handed and hands back: every window and every scratch buffer, the inputs at their blocks, the output
    block and the scratch at any contents. -/
def held (c : Dev nD) (arg1 : Memref sig .tc .vmem S512x1024 .f32) (arg2 : Memref sig .tc .vmem S1x1024 .f32) (arg3 : Memref sig .tc .vmem S256x1024 .f32) (arg4 : Memref sig .tc .vmem S256x1024 .f32) (arg5 : Memref sig .tc .vmem S256x1024 .f32) (arg6 : Memref sig .tc .vmem S1x256x256 .f32) (arg7 : Memref sig .tc .vmem S4x1536 .f32) (arg8 : Memref sig .tc .vmem S1x1536 .f32) (arg9 : Memref sig .tc .vmem S1x128 .f32) (arg10 : Memref sig .tc .vmem S1x128 .f32) (arg11 : Memref sig .tc .vmem S1x1024 .f32) (arg12 : Memref sig .tc .vmem S1x1024 .f32) (arg13 : Memref sig .tc .vmem S128x2048 .bf16) (arg14 : Memref sig .tc .vmem S1x1024 .f32) (arg15 : Memref sig .tc .vmem S512x1024 .f32) (arg16 : Memref sig .tc .vmem S1024x1024 .bf16) (arg17 : Memref sig .tc .vmem S1024x1536 .bf16) (arg18 : Memref sig .tc .vmem S1024x1152 .bf16) (arg19 : Memref sig .tc .vmem S2048x1024 .bf16) (arg20 : Memref sig .tc .vmem S520x1536 .f32) (arg21 : Memref sig .tc .vmem S528x1024 .f32) (arg22 : Memref sig .tc .vmem S2x128x512 .f32) (arg23 : Memref sig .tc .vmem S512x1024 .f32) (arg24 : Memref sig .tc .vmem S512x1024 .f32) (arg25 : Memref sig .tc .vmem S512x512 .f32) (arg26 : Memref sig .tc .vmem S512x2048 .f32) (arg27 : Memref sig .tc .vmem S512x1024 .f32)
    (x0 : Vec F S512x1024 .f32) (x1 : Vec F S1x1024 .f32) (x2 : Vec F S256x1024 .f32) (x3 : Vec F S256x1024 .f32) (x4 : Vec F S256x1024 .f32) (x5 : Vec F S1x256x256 .f32) (x6 : Vec F S4x1536 .f32) (x7 : Vec F S1x1536 .f32) (x8 : Vec F S1x128 .f32) (x9 : Vec F S1x128 .f32) (x10 : Vec F S1x1024 .f32) (x11 : Vec F S1x1024 .f32) (x12 : Vec F S128x2048 .bf16) (x13 : Vec F S1x1024 .f32) : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d))

end Cert.KernelIdeal.Mix

end
-- ==== Proof.MixStage.lean ====
module

public import proofs.«01_k».proof.Proof.MixBase

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the eleven staging steps the body runs and keeps its buffers, whatever the scratch held. -/
theorem run_stage (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x256x256 .f32) (harg6 : arg6.IsWhole) (arg7 : Memref sig .tc .vmem S4x1536 .f32) (harg7 : arg7.IsWhole) (arg8 : Memref sig .tc .vmem S1x1536 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S128x2048 .bf16) (harg13 : arg13.IsWhole) (arg14 : Memref sig .tc .vmem S1x1024 .f32) (harg14 : arg14.IsWhole) (arg15 : Memref sig .tc .vmem S512x1024 .f32) (harg15 : arg15.IsWhole) (arg16 : Memref sig .tc .vmem S1024x1024 .bf16) (harg16 : arg16.IsWhole) (arg17 : Memref sig .tc .vmem S1024x1536 .bf16) (harg17 : arg17.IsWhole) (arg18 : Memref sig .tc .vmem S1024x1152 .bf16) (harg18 : arg18.IsWhole) (arg19 : Memref sig .tc .vmem S2048x1024 .bf16) (harg19 : arg19.IsWhole) (arg20 : Memref sig .tc .vmem S520x1536 .f32) (harg20 : arg20.IsWhole) (arg21 : Memref sig .tc .vmem S528x1024 .f32) (harg21 : arg21.IsWhole) (arg22 : Memref sig .tc .vmem S2x128x512 .f32) (harg22 : arg22.IsWhole) (arg23 : Memref sig .tc .vmem S512x1024 .f32) (harg23 : arg23.IsWhole) (arg24 : Memref sig .tc .vmem S512x1024 .f32) (harg24 : arg24.IsWhole) (arg25 : Memref sig .tc .vmem S512x512 .f32) (harg25 : arg25.IsWhole) (arg26 : Memref sig .tc .vmem S512x2048 .f32) (harg26 : arg26.IsWhole) (arg27 : Memref sig .tc .vmem S512x1024 .f32) (harg27 : arg27.IsWhole)
    (x0 : Vec F S512x1024 .f32) (x1 : Vec F S1x1024 .f32) (x2 : Vec F S256x1024 .f32) (x3 : Vec F S256x1024 .f32) (x4 : Vec F S256x1024 .f32) (x5 : Vec F S1x256x256 .f32) (x6 : Vec F S4x1536 .f32) (x7 : Vec F S1x1536 .f32) (x8 : Vec F S1x128 .f32) (x9 : Vec F S1x128 .f32) (x10 : Vec F S1x1024 .f32) (x11 : Vec F S1x1024 .f32) (x12 : Vec F S128x2048 .bf16) (x13 : Vec F S1x1024 .f32)
    (hi : (i 0).val < 11) (E : Set ℕ) (K : PUnit → sProp 𝕄) :
    iprop(held c arg1 arg2 arg3 arg4 arg5 arg6 arg7 arg8 arg9 arg10 arg11 arg12 arg13 arg14 arg15 arg16 arg17 arg18 arg19 arg20 arg21 arg22 arg23 arg24 arg25 arg26 arg27 x0 x1 x2 x3 x4 x5 x6 x7 x8 x9 x10 x11 x12 x13 ∗ (held c arg1 arg2 arg3 arg4 arg5 arg6 arg7 arg8 arg9 arg10 arg11 arg12 arg13 arg14 arg15 arg16 arg17 arg18 arg19 arg20 arg21 arg22 arg23 arg24 arg25 arg26 arg27 x0 x1 x2 x3 x4 x5 x6 x7 x8 x9 x10 x11 x12 x13 -∗ K ⟨⟩))
      ⊢ wp frame (wpE (defs₀ (F := F)) Variants.none c none) E (cc0_mix i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  have ht : ¬ k0_cond12 i = 1#1 := fun h => absurd ((isTile_iff i).mp h) (by omega)
  have hcase : (i 0).val = 0 ∨ (i 0).val = 1 ∨ (i 0).val = 2 ∨ (i 0).val = 3 ∨ (i 0).val = 4 ∨ (i 0).val = 5 ∨ (i 0).val = 6 ∨ (i 0).val = 7 ∨ (i 0).val = 8 ∨ (i 0).val = 9 ∨ (i 0).val = 10 := by omega
  simp only [cc0_mix_eq_skeleton]; unfold cc0_mix_skel
  simp only [k0_part110_eq_skeleton]
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩⟩, Hk⟩
  rcases hcase with h | h | h | h | h | h | h | h | h | h | h
  all_goals
    have y : ∀ k, k < 43 → (i 0).val = k → isStep i (BitVec.ofNat 32 k) := fun k hk e => (isStep_iff i k hk).mpr e
    have n : ∀ k, k < 43 → (i 0).val ≠ k → ¬ isStep i (BitVec.ofNat 32 k) := fun k hk e => not_isStep i k hk e
    sl_exec (disch := first | sl_exact ht | exact n _ (by omega) (by omega) | exact y _ (by omega) h)
    sl_step
    iapply Hk
    isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; exact hf3
    isplitl [H4]
    · iexists _; isplitr; swap; · iexact H4
      ipureintro; exact hf4
    isplitl [H5]
    · iexists _; isplitr; swap; · iexact H5
      ipureintro; exact hf5
    isplitl [H6]
    · iexists _; isplitr; swap; · iexact H6
      ipureintro; exact hf6
    isplitl [H7]
    · iexists _; isplitr; swap; · iexact H7
      ipureintro; exact hf7
    isplitl [H8]
    · iexists _; isplitr; swap; · iexact H8
      ipureintro; exact hf8
    isplitl [H9]
    · iexists _; isplitr; swap; · iexact H9
      ipureintro; exact hf9
    isplitl [H10]
    · iexists _; isplitr; swap; · iexact H10
      ipureintro; exact hf10
    isplitl [H11]
    · iexists _; isplitr; swap; · iexact H11
      ipureintro; exact hf11
    isplitl [H12]
    · iexists _; isplitr; swap; · iexact H12
      ipureintro; exact hf12
    isplitl [H13]
    · iexists _; isplitr; swap; · iexact H13
      ipureintro; exact hf13
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    isplitl [H25]
    · iexists _, _; isplitr; swap; · iexact H25
      ipureintro; rfl
    iexists _, _; isplitr; swap; · iexact H26
    ipureintro; rfl

end Cert.KernelIdeal.Mix

end
-- ==== Proof.MixTile.lean ====
module

public import proofs.«01_k».proof.Proof.MixBase

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The test by which a tile starts a new sequence, and with it a cleared history and state. -/
abbrev startsSeq (i : grid0.Coords) : Prop :=
  (Scalar.cmpi .ne (Scalar.extui (Scalar.cmpi .eq (Scalar.select (Scalar.andi (Scalar.xori (Scalar.cmpi .slt (Scalar.remsi (Scalar.subi (BitVec.ofNat 32 (i 0).val) 11#32) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (Scalar.subi (BitVec.ofNat 32 (i 0).val) 11#32) (Scalar.select (Scalar.cmpi .eq 4#32 0#32) 1#32 4#32)) 0#32)) (Scalar.addi (Scalar.remsi (Scalar.subi (BitVec.ofNat 32 (i 0).val) 11#32) (Scalar.select (Scalar.cmpi .eq 4#32 0#32) 1#32 4#32)) (Scalar.select (Scalar.cmpi .eq 4#32 0#32) 1#32 4#32)) (Scalar.remsi (Scalar.subi (BitVec.ofNat 32 (i 0).val) 11#32) (Scalar.select (Scalar.cmpi .eq 4#32 0#32) 1#32 4#32))) 0#32)) 0#32) = 1#1

set_option maxHeartbeats 16000000 in
/-- On a tile of activations the body runs and keeps its buffers, whatever the scratch held. -/
theorem run_tile (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x256x256 .f32) (harg6 : arg6.IsWhole) (arg7 : Memref sig .tc .vmem S4x1536 .f32) (harg7 : arg7.IsWhole) (arg8 : Memref sig .tc .vmem S1x1536 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S128x2048 .bf16) (harg13 : arg13.IsWhole) (arg14 : Memref sig .tc .vmem S1x1024 .f32) (harg14 : arg14.IsWhole) (arg15 : Memref sig .tc .vmem S512x1024 .f32) (harg15 : arg15.IsWhole) (arg16 : Memref sig .tc .vmem S1024x1024 .bf16) (harg16 : arg16.IsWhole) (arg17 : Memref sig .tc .vmem S1024x1536 .bf16) (harg17 : arg17.IsWhole) (arg18 : Memref sig .tc .vmem S1024x1152 .bf16) (harg18 : arg18.IsWhole) (arg19 : Memref sig .tc .vmem S2048x1024 .bf16) (harg19 : arg19.IsWhole) (arg20 : Memref sig .tc .vmem S520x1536 .f32) (harg20 : arg20.IsWhole) (arg21 : Memref sig .tc .vmem S528x1024 .f32) (harg21 : arg21.IsWhole) (arg22 : Memref sig .tc .vmem S2x128x512 .f32) (harg22 : arg22.IsWhole) (arg23 : Memref sig .tc .vmem S512x1024 .f32) (harg23 : arg23.IsWhole) (arg24 : Memref sig .tc .vmem S512x1024 .f32) (harg24 : arg24.IsWhole) (arg25 : Memref sig .tc .vmem S512x512 .f32) (harg25 : arg25.IsWhole) (arg26 : Memref sig .tc .vmem S512x2048 .f32) (harg26 : arg26.IsWhole) (arg27 : Memref sig .tc .vmem S512x1024 .f32) (harg27 : arg27.IsWhole)
    (x0 : Vec F S512x1024 .f32) (x1 : Vec F S1x1024 .f32) (x2 : Vec F S256x1024 .f32) (x3 : Vec F S256x1024 .f32) (x4 : Vec F S256x1024 .f32) (x5 : Vec F S1x256x256 .f32) (x6 : Vec F S4x1536 .f32) (x7 : Vec F S1x1536 .f32) (x8 : Vec F S1x128 .f32) (x9 : Vec F S1x128 .f32) (x10 : Vec F S1x1024 .f32) (x11 : Vec F S1x1024 .f32) (x12 : Vec F S128x2048 .bf16) (x13 : Vec F S1x1024 .f32)
    (hi : 11 ≤ (i 0).val) (E : Set ℕ) (K : PUnit → sProp 𝕄) :
    iprop(held c arg1 arg2 arg3 arg4 arg5 arg6 arg7 arg8 arg9 arg10 arg11 arg12 arg13 arg14 arg15 arg16 arg17 arg18 arg19 arg20 arg21 arg22 arg23 arg24 arg25 arg26 arg27 x0 x1 x2 x3 x4 x5 x6 x7 x8 x9 x10 x11 x12 x13 ∗ (held c arg1 arg2 arg3 arg4 arg5 arg6 arg7 arg8 arg9 arg10 arg11 arg12 arg13 arg14 arg15 arg16 arg17 arg18 arg19 arg20 arg21 arg22 arg23 arg24 arg25 arg26 arg27 x0 x1 x2 x3 x4 x5 x6 x7 x8 x9 x10 x11 x12 x13 -∗ K ⟨⟩))
      ⊢ wp frame (wpE (defs₀ (F := F)) Variants.none c none) E (cc0_mix i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  have ht : k0_cond12 i = 1#1 := (isTile_iff i).mpr hi
  have n : ∀ k, k < 11 → ¬ isStep i (BitVec.ofNat 32 k) := fun k hk => not_isStep i k (by omega) (by omega)
  simp only [cc0_mix_eq_skeleton]; unfold cc0_mix_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton]
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩⟩, Hk⟩
  by_cases hs : startsSeq i
  all_goals
    sl_exec (disch := first | sl_exact ht | sl_exact hs | exact n _ (by omega))
    sl_step
    iapply Hk
    isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; exact hf3
    isplitl [H4]
    · iexists _; isplitr; swap; · iexact H4
      ipureintro; exact hf4
    isplitl [H5]
    · iexists _; isplitr; swap; · iexact H5
      ipureintro; exact hf5
    isplitl [H6]
    · iexists _; isplitr; swap; · iexact H6
      ipureintro; exact hf6
    isplitl [H7]
    · iexists _; isplitr; swap; · iexact H7
      ipureintro; exact hf7
    isplitl [H8]
    · iexists _; isplitr; swap; · iexact H8
      ipureintro; exact hf8
    isplitl [H9]
    · iexists _; isplitr; swap; · iexact H9
      ipureintro; exact hf9
    isplitl [H10]
    · iexists _; isplitr; swap; · iexact H10
      ipureintro; exact hf10
    isplitl [H11]
    · iexists _; isplitr; swap; · iexact H11
      ipureintro; exact hf11
    isplitl [H12]
    · iexists _; isplitr; swap; · iexact H12
      ipureintro; exact hf12
    isplitl [H13]
    · iexists _; isplitr; swap; · iexact H13
      ipureintro; exact hf13
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    isplitl [H25]
    · iexists _, _; isplitr; swap; · iexact H25
      ipureintro; rfl
    iexists _, _; isplitr; swap; · iexact H26
    ipureintro; rfl

end Cert.KernelIdeal.Mix

end
-- ==== Proof.MixFrame.lean ====
module

public import proofs.«01_k».proof.Proof.MixStage
public import proofs.«01_k».proof.Proof.MixTile
public import Idealize.ShloMosaic.Lib.Claim

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output window is the one of which the run says nothing. -/
def isOutput : Fin 15 → Bool := fun w => w.val == 14

/-- The run's proof data on one core: the arrays as the launch finds them, each input's buffer at its block after every point,
    the scratch at any contents throughout. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, h⟩ => Pipeline.Dat.unnamed (cfg := cfg0) ⟨14, h⟩ t
  Φ _ := Pipeline.ΦA spec0 c
  q w := Pipeline.shareOf spec0 w
  owed _ := 0

/-- The arrays of the proof data are the ones the launch finds. -/
theorem dat_A (c : Dev nD) (w : Fin cfg0.W) : (dat m c).A w = V m c (Pipeline.arrRef spec0 w) := by
  dsimp only [dat]

/-- The scratch part of the invariant, buffer by buffer. -/
theorem scratch_eq (c : Dev nD) :
    (Pipeline.ΦA spec0 c : sProp 𝕄) = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d) ∗ (∃ d, owns (c : Thread nD τ) (Memref.whole cc0_scratch10) fullShare d) ∗ (∃ d, owns (c : Thread nD τ) (Memref.whole cc0_scratch11) fullShare d)) ∗ (∃ r, prngReg c r)) := by
  unfold Pipeline.ΦA; rw [scopedRest0_eq]; simp only [owns_whole]; try rfl

/-- Before every point each input's buffer holds its block. -/
theorem dat_before (c : Dev nD) (t : Fin cfg0.N) :
    (∀ d, (dat m c).before 0 t d = iblk m c 0 t)
      ∧ (∀ d, (dat m c).before 1 t d = iblk m c 1 t)
      ∧ (∀ d, (dat m c).before 2 t d = X0_2 m c t)
      ∧ (∀ d, (dat m c).before 3 t d = iblk m c 3 t)
      ∧ (∀ d, (dat m c).before 4 t d = iblk m c 4 t)
      ∧ (∀ d, (dat m c).before 5 t d = iblk m c 5 t)
      ∧ (∀ d, (dat m c).before 6 t d = iblk m c 6 t)
      ∧ (∀ d, (dat m c).before 7 t d = iblk m c 7 t)
      ∧ (∀ d, (dat m c).before 8 t d = iblk m c 8 t)
      ∧ (∀ d, (dat m c).before 9 t d = iblk m c 9 t)
      ∧ (∀ d, (dat m c).before 10 t d = iblk m c 10 t)
      ∧ (∀ d, (dat m c).before 11 t d = iblk m c 11 t)
      ∧ (∀ d, (dat m c).before 12 t d = iblk m c 12 t)
      ∧ (∀ d, (dat m c).before 13 t d = iblk m c 13 t) :=
  ⟨before0_0_of m (dat m c) (dat_A m c 0) (fun t => by dsimp only [dat]) t,
    before0_1_of m (dat m c) (dat_A m c 1) (fun t => by dsimp only [dat]) t,
    before0_2_of m (dat m c) (dat_A m c 2) (fun t => by dsimp only [dat]) t,
    before0_3_of m (dat m c) (dat_A m c 3) (fun t => by dsimp only [dat]) t,
    before0_4_of m (dat m c) (dat_A m c 4) (fun t => by dsimp only [dat]) t,
    before0_5_of m (dat m c) (dat_A m c 5) (fun t => by dsimp only [dat]) t,
    before0_6_of m (dat m c) (dat_A m c 6) (fun t => by dsimp only [dat]) t,
    before0_7_of m (dat m c) (dat_A m c 7) (fun t => by dsimp only [dat]) t,
    before0_8_of m (dat m c) (dat_A m c 8) (fun t => by dsimp only [dat]) t,
    before0_9_of m (dat m c) (dat_A m c 9) (fun t => by dsimp only [dat]) t,
    before0_10_of m (dat m c) (dat_A m c 10) (fun t => by dsimp only [dat]) t,
    before0_11_of m (dat m c) (dat_A m c 11) (fun t => by dsimp only [dat]) t,
    before0_12_of m (dat m c) (dat_A m c 12) (fun t => by dsimp only [dat]) t,
    before0_13_of m (dat m c) (dat_A m c 13) (fun t => by dsimp only [dat]) t⟩

set_option maxHeartbeats 4000000 in
/-- The body at any point, from the buffers as the pipeline hands them to the buffers as it takes them back. -/
theorem sound_body (c : Dev nD) (t : Fin cfg0.N) :
    iprop((dat m c).Φ t.castSucc ∗ (dat m c).owesAt () t.castSucc
      ∗ (∃ d, owns (c : Thread nD τ) (st0_0 t) fullShare ((dat m c).before 0 t d))
      ∗ (∃ d, owns (c : Thread nD τ) (st0_1 t) fullShare ((dat m c).before 1 t d))
      ∗ (∃ d, owns (c : Thread nD τ) (st0_2 t) fullShare ((dat m c).before 2 t d))
      ∗ (∃ d, owns (c : Thread nD τ) (st0_3 t) fullShare ((dat m c).before 3 t d))
      ∗ (∃ d, owns (c : Thread nD τ) (st0_4 t) fullShare ((dat m c).before 4 t d))
      ∗ (∃ d, owns (c : Thread nD τ) (st0_5 t) fullShare ((dat m c).before 5 t d))
      ∗ (∃ d, owns (c : Thread nD τ) (st0_6 t) fullShare ((dat m c).before 6 t d))
      ∗ (∃ d, owns (c : Thread nD τ) (st0_7 t) fullShare ((dat m c).before 7 t d))
      ∗ (∃ d, owns (c : Thread nD τ) (st0_8 t) fullShare ((dat m c).before 8 t d))
      ∗ (∃ d, owns (c : Thread nD τ) (st0_9 t) fullShare ((dat m c).before 9 t d))
      ∗ (∃ d, owns (c : Thread nD τ) (st0_10 t) fullShare ((dat m c).before 10 t d))
      ∗ (∃ d, owns (c : Thread nD τ) (st0_11 t) fullShare ((dat m c).before 11 t d))
      ∗ (∃ d, owns (c : Thread nD τ) (st0_12 t) fullShare ((dat m c).before 12 t d))
      ∗ (∃ d, owns (c : Thread nD τ) (st0_13 t) fullShare ((dat m c).before 13 t d))
      ∗ (∃ d, owns (c : Thread nD τ) (st0_14 t) fullShare d))
    ⊢ wp frame (wpE (defs₀ (F := F)) Variants.none c none) Set.univ (bodyAt0 t) (fun _ =>
      iprop((dat m c).Φ t.succ ∗ (dat m c).owesAt () t.succ
      ∗ owns (c : Thread nD τ) (st0_0 t) fullShare (iblk m c 0 t)
      ∗ owns (c : Thread nD τ) (st0_1 t) fullShare (iblk m c 1 t)
      ∗ owns (c : Thread nD τ) (st0_2 t) fullShare (X0_2 m c t)
      ∗ owns (c : Thread nD τ) (st0_3 t) fullShare (iblk m c 3 t)
      ∗ owns (c : Thread nD τ) (st0_4 t) fullShare (iblk m c 4 t)
      ∗ owns (c : Thread nD τ) (st0_5 t) fullShare (iblk m c 5 t)
      ∗ owns (c : Thread nD τ) (st0_6 t) fullShare (iblk m c 6 t)
      ∗ owns (c : Thread nD τ) (st0_7 t) fullShare (iblk m c 7 t)
      ∗ owns (c : Thread nD τ) (st0_8 t) fullShare (iblk m c 8 t)
      ∗ owns (c : Thread nD τ) (st0_9 t) fullShare (iblk m c 9 t)
      ∗ owns (c : Thread nD τ) (st0_10 t) fullShare (iblk m c 10 t)
      ∗ owns (c : Thread nD τ) (st0_11 t) fullShare (iblk m c 11 t)
      ∗ owns (c : Thread nD τ) (st0_12 t) fullShare (iblk m c 12 t)
      ∗ owns (c : Thread nD τ) (st0_13 t) fullShare (iblk m c 13 t)
      ∗ (∃ d, owns (c : Thread nD τ) (st0_14 t) fullShare d))) := by
  obtain ⟨b0, b1, b2, b3, b4, b5, b6, b7, b8, b9, b10, b11, b12, b13⟩ := dat_before m c t
  simp only [b0, b1, b2, b3, b4, b5, b6, b7, b8, b9, b10, b11, b12, b13]
  rw [show (dat m c).owesAt () t.succ = (dat m c).owesAt () t.castSucc from rfl,
    show (dat m c).Φ t.castSucc = Pipeline.ΦA spec0 c from rfl, show (dat m c).Φ t.succ = Pipeline.ΦA spec0 c from rfl, scratch_eq]
  have run : ∀ K : PUnit → sProp 𝕄, iprop(held c (st0_0 t) (st0_1 t) (st0_2 t) (st0_3 t) (st0_4 t) (st0_5 t) (st0_6 t) (st0_7 t) (st0_8 t) (st0_9 t) (st0_10 t) (st0_11 t) (st0_12 t) (st0_13 t) (st0_14 t) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) (Memref.whole cc0_scratch10) (Memref.whole cc0_scratch11) (iblk m c 0 t) (iblk m c 1 t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) ∗ (held c (st0_0 t) (st0_1 t) (st0_2 t) (st0_3 t) (st0_4 t) (st0_5 t) (st0_6 t) (st0_7 t) (st0_8 t) (st0_9 t) (st0_10 t) (st0_11 t) (st0_12 t) (st0_13 t) (st0_14 t) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) (Memref.whole cc0_scratch10) (Memref.whole cc0_scratch11) (iblk m c 0 t) (iblk m c 1 t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) -∗ K ⟨⟩))
      ⊢ wp frame (wpE (defs₀ (F := F)) Variants.none c none) Set.univ (bodyAt0 t) K := by
    intro K
    by_cases h : 11 ≤ ((grid0.coords t) 0).val
    · exact run_tile c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ h Set.univ K
    · exact run_stage c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (by omega) Set.univ K
  iintro ⟨⟨⟨S0, S1, S2, S3, S4, S5, S6, S7, S8, S9, S10, S11⟩, G⟩, O, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, H14⟩
  iapply (run _)
  isplitl [H0 H1 H2 H3 H4 H5 H6 H7 H8 H9 H10 H11 H12 H13 H14 S0 S1 S2 S3 S4 S5 S6 S7 S8 S9 S10 S11]
  · unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    iexact S11
  unfold held
  iintro ⟨H0, H1, H2, H3, H4, H5, H6, H7, H8, H9, H10, H11, H12, H13, H14, S0, S1, S2, S3, S4, S5, S6, S7, S8, S9, S10, S11⟩
  isplitl [S0 S1 S2 S3 S4 S5 S6 S7 S8 S9 S10 S11 G]
  · isplitl [S0 S1 S2 S3 S4 S5 S6 S7 S8 S9 S10 S11]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      iexact S11
    iexact G
  isplitl [O]; · iexact O
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

set_option maxHeartbeats 4000000 in
/-- The library's body obligation, the output window left unstated. -/
theorem obligation (c : Dev nD) : BodyObligation (dat (F := F) m c) (defs₀ (F := F)) Variants.none () Set.univ isOutput := fun t => by
  rw [bigSep_W0, bigSep_W0, show defs₀ (F := F) .tc cfg0.body (cfg0.bodyArgs t (cfg0.slots t)) = bodyAt0 t from by
    unfold defs₀; rw [Defs.onTc_tc]]
  exact triple_restated (sound_body m c t) rfl .rfl fun _ => .rfl

set_option backward.isDefEq.respectTransparency.types false in
/-- The launch: every execution ends, with the staged inputs and every buffer outside the call as they were at its start, and
    every semaphore counter at zero. -/
theorem run_main : θ_run defs (onTc (τ := τ) (main (F := F))) (s₀ m ρ) (fun r =>
    Pipeline.RDat.FramePost (cfgs 0) (fun c => (dat m c).toRForget isOutput) (V m) r ∧ r.2.sem = fun _ => 0) :=
  Pipeline.θ_run_frame_forget_shared (Q' := _) cfgs (fun _ => dat m) (0 : Fin 1) launch₀0 defs₀ Variants.none isOutput m ρ main
    (hbody := fun c => (obligation m c).loose) (hq := fun _ _ _ => rfl)
    (howed := fun _ _ => rfl) (V := V m) (hmain := hmain m Variants.none) (hA := dat_A m) (hΦ := fun _ _ => rfl)

/-- Every execution from any memory ends with the argument arrays unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun _ h => ⟨fun c =>
    have rest := (h.1 c).2
    ⟨(Pipeline.RDat.FramePost.arr_in h.1 c 0 rfl).trans ((dat_A m c 0).trans (V_main_arg0 m c)),
      (rest main_arg1 (Pipeline.mem_restRefs_of main_arg1 (by decide) (by decide))).trans (V_main_arg1 m c),
      (rest main_arg2 (Pipeline.mem_restRefs_of main_arg2 (by decide) (by decide))).trans (V_main_arg2 m c),
      (rest main_arg3 (Pipeline.mem_restRefs_of main_arg3 (by decide) (by decide))).trans (V_main_arg3 m c),
      (rest main_arg4 (Pipeline.mem_restRefs_of main_arg4 (by decide) (by decide))).trans (V_main_arg4 m c),
      (rest main_arg5 (Pipeline.mem_restRefs_of main_arg5 (by decide) (by decide))).trans (V_main_arg5 m c),
      (rest main_arg6 (Pipeline.mem_restRefs_of main_arg6 (by decide) (by decide))).trans (V_main_arg6 m c),
      (rest main_arg7 (Pipeline.mem_restRefs_of main_arg7 (by decide) (by decide))).trans (V_main_arg7 m c),
      (rest main_arg8 (Pipeline.mem_restRefs_of main_arg8 (by decide) (by decide))).trans (V_main_arg8 m c),
      (rest main_arg9 (Pipeline.mem_restRefs_of main_arg9 (by decide) (by decide))).trans (V_main_arg9 m c),
      (rest main_arg10 (Pipeline.mem_restRefs_of main_arg10 (by decide) (by decide))).trans (V_main_arg10 m c),
      (rest main_arg11 (Pipeline.mem_restRefs_of main_arg11 (by decide) (by decide))).trans (V_main_arg11 m c)⟩, h.2⟩) (run_main m ρ)

end Cert.KernelIdeal.Mix

end
-- ==== Proof.Ffn1Run.lean ====
module

public import proofs.«01_k».proof.Proof.Gen.Ffn1Ideal.Frame
public import proofs.«01_k».proof.Proof.Gen.Ffn1Ideal.Skeleton
public import Idealize.ShloMosaic.Lib.ValueIdxCore
public import Idealize.ShloMosaic.Lib.VecWindow
public import Idealize.ShloMosaic.Lib.Pipeline.Value

@[expose] public section

set_option maxRecDepth 16384

noncomputable section

namespace Cert.Ffn1Ideal.Run

open Cert.Ffn1Ideal Cert.Ffn1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The staging branch runs at the first eleven points. -/
theorem stages_iff (i : grid0.Coords) : k0_cond1 i = 1#1 ↔ (i 0).val < 11 := by
  have h : ∀ i : grid0.Coords, k0_cond1 i = 1#1 ↔ (i 0).val < 11 := by decide +kernel
  exact h i

/-- The tile branch runs from point 11 on. -/
theorem tiles_iff (i : grid0.Coords) : k0_cond2 i = 1#1 ↔ 11 ≤ (i 0).val := by
  have h : ∀ i : grid0.Coords, k0_cond2 i = 1#1 ↔ 11 ≤ (i 0).val := by decide +kernel
  exact h i

/-- Slab `j` of a staged weight: its columns `256 j … 256 j + 255`. -/
def slab (s : Vec F S11x1024x256 .bf16) (j : Fin 11) : Vec F S1x1024x256 .bf16 := fun z => s (ValueIdx.ix3 j (z 1) (z 2))

/-- The hidden activations of a tile, column by column, from its normalised rows and the two staged weights. -/
def acts (h : FVec F S1024x1024 .bf16) (s8 s9 : Vec F S11x1024x256 .bf16) : Vec F S1024x2816 .bf16 := fun y =>
  have hy : (y 1).val < 2816 := (y 1).isLt
  k0_pay12 h (slab s8 ⟨(y 1).val / 256, by omega⟩) (slab s9 ⟨(y 1).val / 256, by omega⟩) (ValueIdx.ix2 (y 0) ⟨(y 1).val % 256, by omega⟩)

/-- What a tile writes, from its rows, the two gains and the staged weights. -/
def tile (x0 : Vec F S1024x1024 .f32) (x1 x5 : Vec F S1x1024 .f32) (s8 s9 : Vec F S11x1024x256 .bf16) (s10 : Vec F S2816x1024 .bf16) :
    Vec F S1024x1024 .f32 :=
  k0_pay6 (k0_pay7 x0) (acts (k0_pay8 x0 x1) s8 s9) s10

/-- The activations of a tile on block `j` of the columns are those of slab `j`. -/
theorem acts_block (h : FVec F S1024x1024 .bf16) (s8 s9 : Vec F S11x1024x256 .bf16) (j : Fin 11) (o : ℕ) (ho : o = 256 * j.val)
    (inb : ∀ a, (![0, o] : Fin 2 → ℕ) a + S1024x256.size a ≤ S1024x2816.size a) (z : S1024x256.Idx) :
    k0_pay12 h (slab s8 j) (slab s9 j) z = acts h s8 s9 ((Rect.unit (s := S1024x2816) ![0, o] S1024x256.size inb).emb z) := by
  have hz : (z 1).val < 256 := (z 1).isLt
  have e0 : (((Rect.unit (s := S1024x2816) ![0, o] S1024x256.size inb).emb z) 0).val = (z 0).val := by
    show 0 + 1 * (z 0).val = _; omega
  have e1 : (((Rect.unit (s := S1024x2816) ![0, o] S1024x256.size inb).emb z) 1).val = o + (z 1).val := by
    show o + 1 * (z 1).val = _; omega
  unfold acts
  have hj : (⟨(((Rect.unit (s := S1024x2816) ![0, o] S1024x256.size inb).emb z) 1).val / 256, by rw [e1]; have := j.isLt; omega⟩ : Fin 11) = j :=
    Fin.ext (by show (((Rect.unit (s := S1024x2816) ![0, o] S1024x256.size inb).emb z) 1).val / 256 = j.val; rw [e1]; omega)
  dsimp only
  rw [hj]
  congr 1
  funext a
  match a with
  | ⟨0, _⟩ => exact Fin.ext e0.symm
  | ⟨1, _⟩ => exact Fin.ext (by show (z 1).val = (((Rect.unit (s := S1024x2816) ![0, o] S1024x256.size inb).emb z) 1).val % 256; rw [e1]; omega)

/-- A load of slab `j` of a staged weight reads that slab. -/
theorem load_slab {arg : Memref sig .tc .vmem S11x1024x256 .bf16} {f : arg.view.ty.Contents (Elt F)} {s : Vec F S11x1024x256 .bf16}
    (hf : arg.view.read (Elt F) f = s) (j : Fin 11) (o : ℕ) (ho : o = j.val)
    (inb : ∀ a, (![o, 0, 0] : Fin 3 → ℕ) a + S1x1024x256.size a ≤ S11x1024x256.size a) :
    View.readAt (Elt F) arg.view (Rect.unit (s := S11x1024x256) ![o, 0, 0] S1x1024x256.size inb).toLoadRect f = slab s j := by
  subst hf; subst ho
  funext z
  refine congrArg (arg.view.read (Elt F) f) (funext fun a => ?_)
  have hz : (z 0).val < 1 := (z 0).isLt
  match a with
  | ⟨0, _⟩ => exact Fin.ext (by show j.val + 1 * (z 0).val = j.val; omega)
  | ⟨1, _⟩ => exact Fin.ext (by show 0 + 1 * (z 1).val = (z 1).val; omega)
  | ⟨2, _⟩ => exact Fin.ext (by show 0 + 1 * (z 2).val = (z 2).val; omega)

/-- A column of the activations buffer lies in the block whose bounds hold it. -/
theorem mem_cols (o : ℕ) (inb : ∀ a, (![0, o] : Fin 2 → ℕ) a + S1024x256.size a ≤ S1024x2816.size a) (y : S1024x2816.Idx)
    (h : o ≤ (y 1).val ∧ (y 1).val < o + 256) : y ∈ (Rect.unit (s := S1024x2816) ![0, o] S1024x256.size inb).set := by
  rw [Rect.mem_set_unit]
  have h0 : (y 0).val < 1024 := (y 0).isLt
  intro a
  match a with
  | ⟨0, _⟩ => exact ⟨Nat.zero_le _, by show (y 0).val < 0 + 1024; omega⟩
  | ⟨1, _⟩ => exact h

/-- A load of the whole of a buffer after stores that cover it, each of its part of one function, reads that function. -/
theorem load_whole (v : View sig .tc .vmem S1024x2816 .bf16) (G : Vec F S1024x2816 .bf16) (L : List (View.Piece (Elt F) S1024x2816 .bf16))
    (inb : ∀ a, (![0, 0] : Fin 2 → ℕ) a + S1024x2816.size a ≤ S1024x2816.size a)
    (hp : ∀ p ∈ L, ∀ x : p.1.shape.Idx, p.2 x = G (p.1.emb x)) (hc : ∀ y : S1024x2816.Idx, ∃ p ∈ L, y ∈ p.1.set) :
    v.readCov L (Rect.unit (s := S1024x2816) ![0, 0] S1024x2816.size inb).toLoadRect = G := by
  funext y
  refine (congrFun (View.readAt_full v _ inb) y).trans ?_
  rw [View.read_writes_eq_canon _ _ _ hc]
  exact View.canon_apply_of_pieces G L hp y (hc y)

set_option maxHeartbeats 4000000 in
/-- At a staging point the body stores the three weight blocks, rounded, in their places of the scratch buffers and keeps the
    rest. -/
theorem run_stage (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S11x1024x256 .bf16) (harg8 : arg8.IsWhole) (arg9 : Memref sig .tc .vmem S11x1024x256 .bf16) (harg9 : arg9.IsWhole) (arg10 : Memref sig .tc .vmem S2816x1024 .bf16) (harg10 : arg10.IsWhole) (arg11 : Memref sig .tc .vmem S1024x2816 .bf16) (harg11 : arg11.IsWhole)
    (x0 : Vec F S1024x1024 .f32) (x1 : Vec F S1x1024 .f32) (x2 x3 : Vec F S1024x256 .f32) (x4 : Vec F S256x1024 .f32) (x5 : Vec F S1x1024 .f32)
    (s8 s9 : Vec F S11x1024x256 .bf16) (s10 : Vec F S2816x1024 .bf16)
    (hi : (i 0).val < 11) (E : Set ℕ) (K : PUnit → sProp 𝕄) :
    iprop((owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare s8 ∗ owns (c : Thread nD τ) arg9 fullShare s9 ∗ owns (c : Thread nD τ) arg10 fullShare s10 ∗ (∃ d, owns (c : Thread nD τ) arg11 fullShare d)) ∗ ((owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare (VecWindow.put s8 (k0_off1 i) S1x1024x256.size (k0_pay1 x2)) ∗ owns (c : Thread nD τ) arg9 fullShare (VecWindow.put s9 (k0_off1 i) S1x1024x256.size (k0_pay2 x3)) ∗ owns (c : Thread nD τ) arg10 fullShare (VecWindow.put s10 (k0_off2 i) S256x1024.size (k0_pay3 x4)) ∗ (∃ d, owns (c : Thread nD τ) arg11 fullShare d)) -∗ K ⟨⟩))
      ⊢ wp frame (wpE (defs₀ (F := F)) Variants.none c none) E (cc0_ffn1 i arg1 harg1 arg2 harg2 arg3 harg3 arg4 harg4 arg5 harg5 arg6 harg6 arg7 harg7 arg8 harg8 arg9 harg9 arg10 harg10 arg11 harg11) K := by
  have hs : k0_cond1 i = 1#1 := (stages_iff i).mpr hi
  have ht : ¬ k0_cond2 i = 1#1 := fun h => absurd ((tiles_iff i).mp h) (by omega)
  simp only [cc0_ffn1_eq_skeleton]; unfold cc0_ffn1_skel
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%d10, %f10, -, H10⟩⟩, Hk⟩
  sl_exec (disch := first | sl_exact ht | sl_exact hs)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _, _; isplitr; swap; · iexact H6
    ipureintro; rfl
  isplitl [H7]
  · iexists _; isplitr; swap; · iexact H7
    ipureintro; rw [View.read_writes_cons_put _ _ _ _ _ rfl, View.writes_nil, hf7, View.readAt_full, hf2]
  isplitl [H8]
  · iexists _; isplitr; swap; · iexact H8
    ipureintro; rw [View.read_writes_cons_put _ _ _ _ _ rfl, View.writes_nil, hf8, View.readAt_full, hf3]
  isplitl [H9]
  · iexists _; isplitr; swap; · iexact H9
    ipureintro; rw [View.read_writes_cons_put _ _ _ _ _ rfl, View.writes_nil, hf9, View.readAt_full, hf4]
  iexists _, _; isplitr; swap; · iexact H10
  ipureintro; rfl

set_option maxHeartbeats 16000000 in
/-- On a tile the body writes the tile's result and keeps the staged weights. -/
theorem run_tile (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S11x1024x256 .bf16) (harg8 : arg8.IsWhole) (arg9 : Memref sig .tc .vmem S11x1024x256 .bf16) (harg9 : arg9.IsWhole) (arg10 : Memref sig .tc .vmem S2816x1024 .bf16) (harg10 : arg10.IsWhole) (arg11 : Memref sig .tc .vmem S1024x2816 .bf16) (harg11 : arg11.IsWhole)
    (x0 : Vec F S1024x1024 .f32) (x1 : Vec F S1x1024 .f32) (x2 x3 : Vec F S1024x256 .f32) (x4 : Vec F S256x1024 .f32) (x5 : Vec F S1x1024 .f32)
    (s8 s9 : Vec F S11x1024x256 .bf16) (s10 : Vec F S2816x1024 .bf16)
    (hi : 11 ≤ (i 0).val) (E : Set ℕ) (K : PUnit → sProp 𝕄) :
    iprop((owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare s8 ∗ owns (c : Thread nD τ) arg9 fullShare s9 ∗ owns (c : Thread nD τ) arg10 fullShare s10 ∗ (∃ d, owns (c : Thread nD τ) arg11 fullShare d)) ∗ ((owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (tile x0 x1 x5 s8 s9 s10) ∗ owns (c : Thread nD τ) arg8 fullShare s8 ∗ owns (c : Thread nD τ) arg9 fullShare s9 ∗ owns (c : Thread nD τ) arg10 fullShare s10 ∗ (∃ d, owns (c : Thread nD τ) arg11 fullShare d)) -∗ K ⟨⟩))
      ⊢ wp frame (wpE (defs₀ (F := F)) Variants.none c none) E (cc0_ffn1 i arg1 harg1 arg2 harg2 arg3 harg3 arg4 harg4 arg5 harg5 arg6 harg6 arg7 harg7 arg8 harg8 arg9 harg9 arg10 harg10 arg11 harg11) K := by
  have hs : ¬ k0_cond1 i = 1#1 := fun h => absurd ((stages_iff i).mp h) (by omega)
  have ht : k0_cond2 i = 1#1 := (tiles_iff i).mpr hi
  simp only [cc0_ffn1_eq_skeleton]; unfold cc0_ffn1_skel
  simp only [k0_part1_eq_skeleton, k0_part2_eq_skeleton, k0_part3_eq_skeleton, k0_part4_eq_skeleton, k0_part5_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%d10, %f10, -, H10⟩⟩, Hk⟩
  sl_exec (disch := first | sl_exact ht | sl_exact hs)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; sl_unfold_words
    rw [View.read_writes_full]
    have r0 : View.readAt (Elt F) arg1.view (Rect.unit (s := S1024x1024) ![0, 0] S1024x1024.size inb_S1024x1024_S1024x1024_0_0).toLoadRect f0 = x0 := by
      rw [View.readAt_full, hf0]
    have r1 : View.readAt (Elt F) arg2.view (Rect.unit (s := S1x1024) ![0, 0] S1x1024.size inb_S1x1024_S1x1024_0_0).toLoadRect f1 = x1 := by
      rw [View.readAt_full, hf1]
    have r9 : View.readAt (Elt F) arg10.view (Rect.unit (s := S2816x1024) ![0, 0] S2816x1024.size inb_S2816x1024_S2816x1024_0_0).toLoadRect f9 = s10 := by
      rw [View.readAt_full, hf9]
    rw [r0, r1, r9, load_slab hf7 0 0 rfl, load_slab hf8 0 0 rfl, load_slab hf7 1 1 rfl, load_slab hf8 1 1 rfl, load_slab hf7 2 2 rfl, load_slab hf8 2 2 rfl, load_slab hf7 3 3 rfl, load_slab hf8 3 3 rfl, load_slab hf7 4 4 rfl, load_slab hf8 4 4 rfl, load_slab hf7 5 5 rfl, load_slab hf8 5 5 rfl, load_slab hf7 6 6 rfl, load_slab hf8 6 6 rfl, load_slab hf7 7 7 rfl, load_slab hf8 7 7 rfl, load_slab hf7 8 8 rfl, load_slab hf8 8 8 rfl, load_slab hf7 9 9 rfl, load_slab hf8 9 9 rfl, load_slab hf7 10 10 rfl, load_slab hf8 10 10 rfl]
    refine congrArg (fun a => k0_pay6 (k0_pay7 x0) a s10) (load_whole _ (acts (k0_pay8 x0 x1) s8 s9) _ _ ?_ ?_)
    · simp only [List.forall_mem_cons, List.not_mem_nil, false_implies, implies_true, and_true]
      exact ⟨fun z => acts_block (k0_pay8 x0 x1) s8 s9 10 2560 rfl _ z, fun z => acts_block (k0_pay8 x0 x1) s8 s9 9 2304 rfl _ z, fun z => acts_block (k0_pay8 x0 x1) s8 s9 8 2048 rfl _ z, fun z => acts_block (k0_pay8 x0 x1) s8 s9 7 1792 rfl _ z, fun z => acts_block (k0_pay8 x0 x1) s8 s9 6 1536 rfl _ z, fun z => acts_block (k0_pay8 x0 x1) s8 s9 5 1280 rfl _ z, fun z => acts_block (k0_pay8 x0 x1) s8 s9 4 1024 rfl _ z, fun z => acts_block (k0_pay8 x0 x1) s8 s9 3 768 rfl _ z, fun z => acts_block (k0_pay8 x0 x1) s8 s9 2 512 rfl _ z, fun z => acts_block (k0_pay8 x0 x1) s8 s9 1 256 rfl _ z, fun z => acts_block (k0_pay8 x0 x1) s8 s9 0 0 rfl _ z⟩
    · intro y
      have hy : (y 1).val < 2816 := (y 1).isLt
      rcases (by omega : (2560 ≤ (y 1).val ∧ (y 1).val < 2560 + 256) ∨ (2304 ≤ (y 1).val ∧ (y 1).val < 2304 + 256) ∨ (2048 ≤ (y 1).val ∧ (y 1).val < 2048 + 256) ∨ (1792 ≤ (y 1).val ∧ (y 1).val < 1792 + 256) ∨ (1536 ≤ (y 1).val ∧ (y 1).val < 1536 + 256) ∨ (1280 ≤ (y 1).val ∧ (y 1).val < 1280 + 256) ∨ (1024 ≤ (y 1).val ∧ (y 1).val < 1024 + 256) ∨ (768 ≤ (y 1).val ∧ (y 1).val < 768 + 256) ∨ (512 ≤ (y 1).val ∧ (y 1).val < 512 + 256) ∨ (256 ≤ (y 1).val ∧ (y 1).val < 256 + 256) ∨ (0 ≤ (y 1).val ∧ (y 1).val < 0 + 256)) with h | h | h | h | h | h | h | h | h | h | h
      · exact ⟨_, .head _, mem_cols 2560 inb_S1024x2816_S1024x256_0_2560 y h⟩
      · exact ⟨_, .tail _ (.head _), mem_cols 2304 inb_S1024x2816_S1024x256_0_2304 y h⟩
      · exact ⟨_, .tail _ (.tail _ (.head _)), mem_cols 2048 inb_S1024x2816_S1024x256_0_2048 y h⟩
      · exact ⟨_, .tail _ (.tail _ (.tail _ (.head _))), mem_cols 1792 inb_S1024x2816_S1024x256_0_1792 y h⟩
      · exact ⟨_, .tail _ (.tail _ (.tail _ (.tail _ (.head _)))), mem_cols 1536 inb_S1024x2816_S1024x256_0_1536 y h⟩
      · exact ⟨_, .tail _ (.tail _ (.tail _ (.tail _ (.tail _ (.head _))))), mem_cols 1280 inb_S1024x2816_S1024x256_0_1280 y h⟩
      · exact ⟨_, .tail _ (.tail _ (.tail _ (.tail _ (.tail _ (.tail _ (.head _)))))), mem_cols 1024 inb_S1024x2816_S1024x256_0_1024 y h⟩
      · exact ⟨_, .tail _ (.tail _ (.tail _ (.tail _ (.tail _ (.tail _ (.tail _ (.head _))))))), mem_cols 768 inb_S1024x2816_S1024x256_0_768 y h⟩
      · exact ⟨_, .tail _ (.tail _ (.tail _ (.tail _ (.tail _ (.tail _ (.tail _ (.tail _ (.head _)))))))), mem_cols 512 inb_S1024x2816_S1024x256_0_512 y h⟩
      · exact ⟨_, .tail _ (.tail _ (.tail _ (.tail _ (.tail _ (.tail _ (.tail _ (.tail _ (.tail _ (.head _))))))))), mem_cols 256 inb_S1024x2816_S1024x256_0_256 y h⟩
      · exact ⟨_, .tail _ (.tail _ (.tail _ (.tail _ (.tail _ (.tail _ (.tail _ (.tail _ (.tail _ (.tail _ (.head _)))))))))), mem_cols 0 inb_S1024x2816_S1024x256_0_0 y h⟩

  isplitl [H7]
  · iexists _; isplitr; swap; · iexact H7
    ipureintro; exact hf7
  isplitl [H8]
  · iexists _; isplitr; swap; · iexact H8
    ipureintro; exact hf8
  isplitl [H9]
  · iexists _; isplitr; swap; · iexact H9
    ipureintro; exact hf9
  iexists _, _; isplitr; swap; · iexact H10
  ipureintro; rfl

end Cert.Ffn1Ideal.Run

end
-- ==== Proof.Ffn1Frame.lean ====
module

public import proofs.«01_k».proof.Proof.Ffn1Run
public import Idealize.ShloMosaic.Lib.Claim
public import Idealize.ShloMosaic.Lib.VecWindow
public import Idealize.ShloMosaic.Lib.ValueIdxCore
public import Idealize.ShloMosaic.Lib.Pipeline.FrameBody
public import Idealize.ShloMosaic.Lib.Pipeline.DatRel
public import Idealize.ShloMosaic.Lib.Pipeline.ArrRel
public import Idealize.ShloMosaic.Lib.Pipeline.Value

@[expose] public section

set_option maxRecDepth 16384

noncomputable section

namespace Cert.Ffn1Ideal.Run

open Cert.Ffn1Ideal Cert.Ffn1Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid point of a number. -/
def pt (n : ℕ) : Fin cfg0.N := ⟨n % 27, lt_of_lt_of_eq (Nat.mod_lt _ (by decide)) N_0.symm⟩

/-- The point of a point's own number is that point. -/
theorem pt_val (t : Fin cfg0.N) : pt t.val = t :=
  Fin.ext (Nat.mod_eq_of_lt (lt_of_lt_of_eq t.isLt N_0))

/-- The gate weights as the staging points lay them out: slab `i` is the cast block of point `i`. -/
def WG (c : Dev nD) : Vec F S11x1024x256 .bf16 :=
  fun y => (k0_pay1 (iblk m c 2 (pt (y 0).val)) : Vec F S1x1024x256 .bf16) (ix3 (0 : Fin 1) (y 1) (y 2))

/-- The up weights as the staging points lay them out. -/
def WU (c : Dev nD) : Vec F S11x1024x256 .bf16 :=
  fun y => (k0_pay2 (iblk m c 3 (pt (y 0).val)) : Vec F S1x1024x256 .bf16) (ix3 (0 : Fin 1) (y 1) (y 2))

/-- The down weights as the staging points lay them out: rows `256 i` to `256 i + 255` are the cast block of point `i`. -/
def WD (c : Dev nD) : Vec F S2816x1024 .bf16 :=
  fun y => (k0_pay3 (iblk m c 4 (pt ((y 0).val / 256))) : Vec F S256x1024 .bf16) (ix2 (⟨(y 0).val % 256, Nat.mod_lt _ (by decide)⟩ : Fin 256) (y 1))

/-- What the scratch weights hold once the points below `n` have run: their slabs and their rows. -/
def Staged (c : Dev nD) (n : ℕ) (s8 s9 : Vec F S11x1024x256 .bf16) (s10 : Vec F S2816x1024 .bf16) : Prop :=
  (∀ y : S11x1024x256.Idx, (y 0).val < n → s8 y = WG m c y) ∧ (∀ y : S11x1024x256.Idx, (y 0).val < n → s9 y = WU m c y)
    ∧ (∀ y : S2816x1024.Idx, (y 0).val < 256 * n → s10 y = WD m c y)

/-- Past the staging points the scratch weights are all in place. -/
theorem Staged.all {m : (ℓ : Loc nD τ sig) → Buf (Elt F) ℓ} {c : Dev nD} {n : ℕ} {s8 s9 : Vec F S11x1024x256 .bf16} {s10 : Vec F S2816x1024 .bf16} (h : Staged m c n s8 s9 s10)
    (hn : 11 ≤ n) : s8 = WG m c ∧ s9 = WU m c ∧ s10 = WD m c :=
  ⟨funext fun y => h.1 y (lt_of_lt_of_le (y 0).isLt hn), funext fun y => h.2.1 y (lt_of_lt_of_le (y 0).isLt hn),
    funext fun y => h.2.2 y (lt_of_lt_of_le (y 0).isLt (by show 2816 ≤ 256 * n; omega))⟩

/-- Once in place, they are in place at every later point. -/
theorem Staged.whole (c : Dev nD) (n : ℕ) : Staged m c n (WG m c) (WU m c) (WD m c) :=
  ⟨fun _ _ => rfl, fun _ _ => rfl, fun _ _ => rfl⟩

/-- A point's own coordinate is its number. -/
theorem coord_val : ∀ t : Fin grid0.N, ((grid0.coords t) 0).val = t.val := by decide +kernel

/-- Where a staging point stores its slab. -/
theorem slab_off : ∀ t : Fin grid0.N, t.val < 11 → k0_off1 (grid0.coords t) 0 = t.val ∧ k0_off1 (grid0.coords t) 1 = 0
    ∧ k0_off1 (grid0.coords t) 2 = 0 := by decide +kernel

/-- Where a staging point stores its rows. -/
theorem rows_off : ∀ t : Fin grid0.N, t.val < 11 → k0_off2 (grid0.coords t) 0 = 256 * t.val ∧ k0_off2 (grid0.coords t) 1 = 0 := by decide +kernel

/-- A slab store, read at any index: the stored slab at its own number, elsewhere what was there. -/
theorem put_slab {e : EltTy} (t : Fin grid0.N) (ht : t.val < 11) (s : Vec F S11x1024x256 e) (w : Vec F S1x1024x256 e) (y : S11x1024x256.Idx) :
    VecWindow.put s (k0_off1 (grid0.coords t)) S1x1024x256.size w y
      = if (y 0).val = t.val then w (ix3 (0 : Fin 1) (y 1) (y 2)) else s y := by
  obtain ⟨o0, o1, o2⟩ := slab_off t ht
  have h1 : (y 1).val < 1024 := (y 1).isLt
  have h2 : (y 2).val < 256 := (y 2).isLt
  unfold VecWindow.put
  by_cases h : (y 0).val = t.val
  · have hb : ∀ a, k0_off1 (grid0.coords t) a ≤ (y a).val ∧ (y a).val < k0_off1 (grid0.coords t) a + S1x1024x256.size a := fun a => by
      match a with
      | ⟨0, _⟩ => exact ⟨by rw [show k0_off1 (grid0.coords t) ⟨0, _⟩ = t.val from o0]; exact h.ge, by rw [show k0_off1 (grid0.coords t) ⟨0, _⟩ = t.val from o0]; show (y 0).val < t.val + 1; omega⟩
      | ⟨1, _⟩ => exact ⟨by rw [show k0_off1 (grid0.coords t) ⟨1, _⟩ = 0 from o1]; omega, by rw [show k0_off1 (grid0.coords t) ⟨1, _⟩ = 0 from o1]; show (y 1).val < 0 + 1024; omega⟩
      | ⟨2, _⟩ => exact ⟨by rw [show k0_off1 (grid0.coords t) ⟨2, _⟩ = 0 from o2]; omega, by rw [show k0_off1 (grid0.coords t) ⟨2, _⟩ = 0 from o2]; show (y 2).val < 0 + 256; omega⟩
    rw [dif_pos hb, if_pos h]
    refine congrArg w (funext fun a => Fin.ext ?_)
    match a with
    | ⟨0, _⟩ => show (y 0).val - k0_off1 (grid0.coords t) 0 = 0; rw [o0]; omega
    | ⟨1, _⟩ => show (y 1).val - k0_off1 (grid0.coords t) 1 = (y 1).val; rw [o1]; omega
    | ⟨2, _⟩ => show (y 2).val - k0_off1 (grid0.coords t) 2 = (y 2).val; rw [o2]; omega
  · rw [if_neg h, dif_neg]
    intro hb
    have h0 := hb 0
    rw [o0] at h0
    have h0' : (y 0).val < t.val + 1 := h0.2
    exact h (by have := h0.1; omega)

/-- A store of rows, read at any index: the stored rows at their own number, elsewhere what was there. -/
theorem put_rows {e : EltTy} (t : Fin grid0.N) (ht : t.val < 11) (s : Vec F S2816x1024 e) (w : Vec F S256x1024 e) (y : S2816x1024.Idx) :
    VecWindow.put s (k0_off2 (grid0.coords t)) S256x1024.size w y
      = if (y 0).val / 256 = t.val then w (ix2 (⟨(y 0).val % 256, Nat.mod_lt _ (by decide)⟩ : Fin 256) (y 1)) else s y := by
  obtain ⟨o0, o1⟩ := rows_off t ht
  have h1 : (y 1).val < 1024 := (y 1).isLt
  unfold VecWindow.put
  by_cases h : (y 0).val / 256 = t.val
  · have hb : ∀ a, k0_off2 (grid0.coords t) a ≤ (y a).val ∧ (y a).val < k0_off2 (grid0.coords t) a + S256x1024.size a := fun a => by
      match a with
      | ⟨0, _⟩ => exact ⟨by rw [show k0_off2 (grid0.coords t) ⟨0, _⟩ = 256 * t.val from o0]; show 256 * t.val ≤ (y 0).val; omega, by rw [show k0_off2 (grid0.coords t) ⟨0, _⟩ = 256 * t.val from o0]; show (y 0).val < 256 * t.val + 256; omega⟩
      | ⟨1, _⟩ => exact ⟨by rw [show k0_off2 (grid0.coords t) ⟨1, _⟩ = 0 from o1]; omega, by rw [show k0_off2 (grid0.coords t) ⟨1, _⟩ = 0 from o1]; show (y 1).val < 0 + 1024; omega⟩
    rw [dif_pos hb, if_pos h]
    refine congrArg w (funext fun a => Fin.ext ?_)
    match a with
    | ⟨0, _⟩ => show (y 0).val - k0_off2 (grid0.coords t) 0 = (y 0).val % 256; rw [o0]; omega
    | ⟨1, _⟩ => show (y 1).val - k0_off2 (grid0.coords t) 1 = (y 1).val; rw [o1]; omega
  · rw [if_neg h, dif_neg]
    intro hb
    have h0 := hb 0
    rw [o0] at h0
    have h0' : (y 0).val < 256 * t.val + 256 := h0.2
    exact h (by have := h0.1; omega)

/-- A staging point adds its own slabs and rows to those in place. -/
theorem Staged.step (c : Dev nD) (t : Fin cfg0.N) (ht : t.val < 11) (s8 s9 : Vec F S11x1024x256 .bf16) (s10 : Vec F S2816x1024 .bf16)
    (h : Staged m c t.val s8 s9 s10) : Staged m c (t.val + 1)
      (VecWindow.put s8 (k0_off1 (grid0.coords t)) S1x1024x256.size (k0_pay1 (iblk m c 2 t)))
      (VecWindow.put s9 (k0_off1 (grid0.coords t)) S1x1024x256.size (k0_pay2 (iblk m c 3 t)))
      (VecWindow.put s10 (k0_off2 (grid0.coords t)) S256x1024.size (k0_pay3 (iblk m c 4 t))) := by
  refine ⟨fun y hy => ?_, fun y hy => ?_, fun y hy => ?_⟩
  · refine (put_slab t ht _ _ y).trans ?_
    by_cases e : (y 0).val = t.val
    · rw [if_pos e]; unfold WG; rw [e, pt_val]
    · rw [if_neg e]; exact h.1 y (by omega)
  · refine (put_slab t ht _ _ y).trans ?_
    by_cases e : (y 0).val = t.val
    · rw [if_pos e]; unfold WU; rw [e, pt_val]
    · rw [if_neg e]; exact h.2.1 y (by omega)
  · refine (put_rows t ht _ _ y).trans ?_
    by_cases e : (y 0).val / 256 = t.val
    · rw [if_pos e]; unfold WD; rw [e, pt_val]
    · rw [if_neg e]; exact h.2.2 y (by omega)

/-- What is carried from point to point: the scratch weights staged so far, and the rest of the scratch at any contents. -/
def carried (c : Dev nD) (n : ℕ) : sProp 𝕄 :=
  iprop(∃ s8 s9 s10, ⌜Staged m c n s8 s9 s10⌝ ∗ owns (c : Thread nD τ) (Memref.whole cc0_scratch0) fullShare s8 ∗ owns (c : Thread nD τ) (Memref.whole cc0_scratch1) fullShare s9 ∗ owns (c : Thread nD τ) (Memref.whole cc0_scratch2) fullShare s10
    ∗ (∃ d, owns (c : Thread nD τ) (Memref.whole cc0_scratch3) fullShare d) ∗ (∃ r, prngReg c r))

/-- The output window is the one held to a statement of its own. -/
def isOutput : Fin 7 → Bool := fun w => w.val == 6

/-- The tile of a point: of its input rows, over the staged weights. -/
def tileOf (c : Dev nD) (t : Fin cfg0.N) : Vec F S1024x1024 .f32 := tile (iblk m c 0 t) (iblk m c 1 t) (iblk m c 5 t) (WG m c) (WU m c) (WD m c)

/-- What a tile point leaves in the output's buffer: its tile's result. -/
def left (c : Dev nD) (w : Fin cfg0.W) (t : Fin cfg0.N) : ((cfg0.win w).block.Idx → Elt F (cfg0.win w).elt) → Prop :=
  match w with
  | ⟨0, _⟩ => fun _ => True
  | ⟨1, _⟩ => fun _ => True
  | ⟨2, _⟩ => fun _ => True
  | ⟨3, _⟩ => fun _ => True
  | ⟨4, _⟩ => fun _ => True
  | ⟨5, _⟩ => fun _ => True
  | ⟨6, _⟩ => fun X => 11 ≤ t.val → X = tileOf m c t

/-- The run's proof data on one core: the arrays as the launch finds them, each input's buffer at its block after every point. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ n := carried m c n.val
  q _ := fullShare
  owed _ := 0

/-- The same data, the output window held to `left`. -/
def rdat (c : Dev nD) : RDat τ (Elt F) Unit ℕ (UR sig nD τ) ℕ cfg0 c := (dat m c).toRRel isOutput (left m c)

/-- The arrays of the proof data are the ones the launch finds. -/
theorem dat_A (c : Dev nD) (w : Fin cfg0.W) : (dat m c).A w = V m c (Pipeline.arrRef spec0 w) := by
  dsimp only [dat]

/-- The scratch, buffer by buffer. -/
theorem scratch_eq (c : Dev nD) :
    (Pipeline.ΦA spec0 c : sProp 𝕄) = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA; rw [scopedRest0_eq]; simp only [owns_whole]; try rfl

/-- Before every point each input's buffer holds its block. -/
theorem dat_before (c : Dev nD) (t : Fin cfg0.N) :
    (∀ d, (dat m c).before 0 t d = iblk m c 0 t)
      ∧ (∀ d, (dat m c).before 1 t d = iblk m c 1 t)
      ∧ (∀ d, (dat m c).before 2 t d = iblk m c 2 t)
      ∧ (∀ d, (dat m c).before 3 t d = iblk m c 3 t)
      ∧ (∀ d, (dat m c).before 4 t d = iblk m c 4 t)
      ∧ (∀ d, (dat m c).before 5 t d = iblk m c 5 t) :=
  ⟨before0_0_of m (dat m c) (dat_A m c 0) (fun t => by dsimp only [dat]) t,
    before0_1_of m (dat m c) (dat_A m c 1) (fun t => by dsimp only [dat]) t,
    before0_2_of m (dat m c) (dat_A m c 2) (fun t => by dsimp only [dat]) t,
    before0_3_of m (dat m c) (dat_A m c 3) (fun t => by dsimp only [dat]) t,
    before0_4_of m (dat m c) (dat_A m c 4) (fun t => by dsimp only [dat]) t,
    before0_5_of m (dat m c) (dat_A m c 5) (fun t => by dsimp only [dat]) t⟩

set_option maxHeartbeats 4000000 in
/-- The body at any point, from the buffers as the pipeline hands them to the buffers as it takes them back. -/
theorem sound_body (c : Dev nD) (t : Fin cfg0.N) :
    iprop((dat m c).Φ t.castSucc ∗ (dat m c).owesAt () t.castSucc
      ∗ (∃ d, owns (c : Thread nD τ) (st0_0 t) fullShare ((dat m c).before 0 t d))
      ∗ (∃ d, owns (c : Thread nD τ) (st0_1 t) fullShare ((dat m c).before 1 t d))
      ∗ (∃ d, owns (c : Thread nD τ) (st0_2 t) fullShare ((dat m c).before 2 t d))
      ∗ (∃ d, owns (c : Thread nD τ) (st0_3 t) fullShare ((dat m c).before 3 t d))
      ∗ (∃ d, owns (c : Thread nD τ) (st0_4 t) fullShare ((dat m c).before 4 t d))
      ∗ (∃ d, owns (c : Thread nD τ) (st0_5 t) fullShare ((dat m c).before 5 t d))
      ∗ (∃ Y, ⌜(rdat m c).Finds 6 t Y⌝ ∗ owns (c : Thread nD τ) (st0_6 t) fullShare Y))
    ⊢ wp frame (wpE (defs₀ (F := F)) Variants.none c none) Set.univ (bodyAt0 t) (fun _ =>
      iprop((dat m c).Φ t.succ ∗ (dat m c).owesAt () t.succ
      ∗ owns (c : Thread nD τ) (st0_0 t) fullShare (iblk m c 0 t)
      ∗ owns (c : Thread nD τ) (st0_1 t) fullShare (iblk m c 1 t)
      ∗ owns (c : Thread nD τ) (st0_2 t) fullShare (iblk m c 2 t)
      ∗ owns (c : Thread nD τ) (st0_3 t) fullShare (iblk m c 3 t)
      ∗ owns (c : Thread nD τ) (st0_4 t) fullShare (iblk m c 4 t)
      ∗ owns (c : Thread nD τ) (st0_5 t) fullShare (iblk m c 5 t)
      ∗ (∃ X, ⌜left m c 6 t X⌝ ∗ owns (c : Thread nD τ) (st0_6 t) fullShare X))) := by
  obtain ⟨b0, b1, b2, b3, b4, b5⟩ := dat_before m c t
  simp only [b0, b1, b2, b3, b4, b5]
  rw [show (dat m c).owesAt () t.succ = (dat m c).owesAt () t.castSucc from rfl,
    show (dat m c).Φ t.castSucc = carried m c t.val from rfl, show (dat m c).Φ t.succ = carried m c (t.val + 1) from rfl]
  unfold carried
  have hc : ((grid0.coords t) 0).val = t.val := coord_val t
  iintro ⟨⟨%s8, %s9, %s10, %hs, S0, S1, S2, S3, G⟩, O, ⟨%d0, H0⟩, ⟨%d1, H1⟩, ⟨%d2, H2⟩, ⟨%d3, H3⟩, ⟨%d4, H4⟩, ⟨%d5, H5⟩, ⟨%Y, -, H6⟩⟩
  by_cases h : 11 ≤ t.val
  · obtain ⟨rfl, rfl, rfl⟩ := hs.all h
    iapply (run_tile c (grid0.coords t) _ _ _ _ _ _ _ _ _ _ _ _ _ _ _ _ _ _ _ _ _ _ (iblk m c 0 t) (iblk m c 1 t) (iblk m c 2 t) (iblk m c 3 t) (iblk m c 4 t) (iblk m c 5 t) (WG m c) (WU m c) (WD m c) (by omega) Set.univ _)
    isplitl [H0 H1 H2 H3 H4 H5 H6 S0 S1 S2 S3]
    · isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [S0]; · iexact S0
      isplitl [S1]; · iexact S1
      isplitl [S2]; · iexact S2
      iexact S3
    iintro ⟨H0, H1, H2, H3, H4, H5, H6, S0, S1, S2, S3⟩
    isplitl [S0 S1 S2 S3 G]
    · iexists _, _, _; isplitr; swap
      · isplitl [S0]; · iexact S0
        isplitl [S1]; · iexact S1
        isplitl [S2]; · iexact S2
        isplitl [S3]; · iexact S3
        iexact G
      · ipureintro; exact Staged.whole m c _
    isplitl [O]; · iexact O
    isplitl [H0]; · iexact H0
    isplitl [H1]; · iexact H1
    isplitl [H2]; · iexact H2
    isplitl [H3]; · iexact H3
    isplitl [H4]; · iexact H4
    isplitl [H5]; · iexact H5
    iexists _; isplitr; swap; · iexact H6
    ipureintro; exact fun _ => rfl
  · iapply (run_stage c (grid0.coords t) _ _ _ _ _ _ _ _ _ _ _ _ _ _ _ _ _ _ _ _ _ _ (iblk m c 0 t) (iblk m c 1 t) (iblk m c 2 t) (iblk m c 3 t) (iblk m c 4 t) (iblk m c 5 t) s8 s9 s10 (by omega) Set.univ _)
    isplitl [H0 H1 H2 H3 H4 H5 H6 S0 S1 S2 S3]
    · isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [S0]; · iexact S0
      isplitl [S1]; · iexact S1
      isplitl [S2]; · iexact S2
      iexact S3
    iintro ⟨H0, H1, H2, H3, H4, H5, ⟨%X, H6⟩, S0, S1, S2, S3⟩
    isplitl [S0 S1 S2 S3 G]
    · iexists _, _, _; isplitr; swap
      · isplitl [S0]; · iexact S0
        isplitl [S1]; · iexact S1
        isplitl [S2]; · iexact S2
        isplitl [S3]; · iexact S3
        iexact G
      · ipureintro; exact Staged.step m c t (by omega) s8 s9 s10 hs
    isplitl [O]; · iexact O
    isplitl [H0]; · iexact H0
    isplitl [H1]; · iexact H1
    isplitl [H2]; · iexact H2
    isplitl [H3]; · iexact H3
    isplitl [H4]; · iexact H4
    isplitl [H5]; · iexact H5
    iexists _; isplitr; swap; · iexact H6
    ipureintro; exact fun h' => absurd h' h

/-- The library's body obligation, the output window held to `left`. -/
theorem obligation (c : Dev nD) : BodyObligationRel (dat (F := F) m c) (defs₀ (F := F)) Variants.none () Set.univ isOutput (left m c) := fun t => by
  rw [bigSep_W0, bigSep_W0, show defs₀ (F := F) .tc cfg0.body (cfg0.bodyArgs t (cfg0.slots t)) = bodyAt0 t from by
    unfold defs₀; rw [Defs.onTc_tc]]
  exact triple_restated (sound_body m c t) rfl .rfl fun _ => .rfl

/-- The scratch as the launch hands it over is what the first point carries. -/
theorem carried_start (c : Dev nD) : (Pipeline.ΦA spec0 c : sProp 𝕄) ⊢ carried m c 0 := by
  rw [scratch_eq]; unfold carried
  iintro ⟨⟨⟨%s8, S0⟩, ⟨%s9, S1⟩, ⟨%s10, S2⟩, S3⟩, G⟩
  iexists s8, s9, s10
  isplitr
  · ipureintro; exact ⟨fun _ h => absurd h (Nat.not_lt_zero _), fun _ h => absurd h (Nat.not_lt_zero _), fun _ h => absurd h (Nat.not_lt_zero _)⟩
  isplitl [S0]; · iexact S0
  isplitl [S1]; · iexact S1
  isplitl [S2]; · iexact S2
  isplitl [S3]; · iexact S3
  iexact G

/-- What is carried, forgotten, is the scratch at any contents. -/
theorem carried_end (c : Dev nD) (n : ℕ) : carried m c n ⊢ (Pipeline.ΦA spec0 c : sProp 𝕄) := by
  rw [scratch_eq]; unfold carried
  iintro ⟨%s8, %s9, %s10, -, S0, S1, S2, S3, G⟩
  isplitl [S0 S1 S2 S3]
  · isplitl [S0]; · iexists s8; iexact S0
    isplitl [S1]; · iexists s9; iexact S1
    isplitl [S2]; · iexists s10; iexact S2
    iexact S3
  iexact G

set_option backward.isDefEq.respectTransparency.types false in
/-- The launch: every execution ends, the windows' arrays as the proof data say, every buffer outside the call as it was at its
    start, and every semaphore counter at zero. -/
theorem run_main : θ_run defs (onTc (τ := τ) (main (F := F))) (s₀ m ρ) (fun r =>
    RDat.FramePost (cfgs 0) (rdat m) (V m) r ∧ r.2.sem = fun _ => 0) :=
  RDat.θ_run_frame_track (Q' := _) cfgs (0 : Fin 1) launch0 defs₀ Variants.none (rdat m) m ρ main
    (fun c => (obligation m c).toRRel) (fun c w => by fin_cases w <;> rfl) (fun _ _ => rfl) (V m) (hmain m Variants.none)
    (fun c w => dat_A m c w) (fun c => carried_start m c) (fun c => carried_end m c _)

/-- Every execution from any memory ends with the argument arrays unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    have rest := (h.1 c).2
    ⟨(rest main_arg0 (Pipeline.mem_restRefs_of main_arg0 (by decide) (by decide))).trans (V_main_arg0 m c),
      (rest main_arg1 (Pipeline.mem_restRefs_of main_arg1 (by decide) (by decide))).trans (V_main_arg1 m c),
      (rest main_arg2 (Pipeline.mem_restRefs_of main_arg2 (by decide) (by decide))).trans (V_main_arg2 m c),
      (rest main_arg3 (Pipeline.mem_restRefs_of main_arg3 (by decide) (by decide))).trans (V_main_arg3 m c),
      (rest main_arg4 (Pipeline.mem_restRefs_of main_arg4 (by decide) (by decide))).trans (V_main_arg4 m c)⟩, h.2⟩) (run_main m ρ)

/-- The result array: row by row, the tile of the row's point. -/
def result (c : Dev nD) : Vec F S16384x1024 .f32 := fun y =>
  tileOf m c (pt (11 + (y 0).val / 1024))
    (ix2 (⟨(y 0).val % 1024, Nat.mod_lt _ (by decide)⟩ : Fin 1024) (y 1))

/-- Only tile points write back. -/
theorem flush_tile : ∀ t : Fin cfg0.N, (cfg0.win 6).flush t = true → 11 ≤ t.val := by decide +kernel

/-- Every tile point writes back. -/
theorem tile_flush : ∀ t : Fin cfg0.N, 11 ≤ t.val → (cfg0.win 6).flush t = true := by decide +kernel

/-- The output's block at a tile point. -/
theorem out_index : ∀ t : Fin cfg0.N, 11 ≤ t.val → (cfg0.win 6).index t 0 = t.val - 11 ∧ (cfg0.win 6).index t 1 = 0 := by decide +kernel

/-- Where an element of the output's block sits in the array. -/
theorem out_emb (t : Fin cfg0.N) (ht : 11 ≤ t.val) (x : S1024x1024.Idx) :
    ((cfg0.win 6).blk t).view.emb x = (ix2 (⟨(t.val - 11) * 1024 + (x 0).val, by
      have := lt_of_lt_of_eq t.isLt N_0; have h0 : (x 0).val < 1024 := (x 0).isLt; omega⟩ : Fin 16384) (x 1) : S16384x1024.Idx) := by
  obtain ⟨i0, i1⟩ := out_index t ht
  refine funext fun a => Fin.ext ?_
  match a with
  | ⟨0, _⟩ => exact (Pipeline.Window.rect_emb_val (cfg0.win 6) t x 0).trans (by rw [i0]; rfl)
  | ⟨1, _⟩ => exact (Pipeline.Window.rect_emb_val (cfg0.win 6) t x 1).trans (by rw [i1, Nat.zero_mul, Nat.zero_add])

/-- The result's rows under a tile point's block are that point's tile. -/
theorem result_emb (c : Dev nD) (t : Fin cfg0.N) (ht : 11 ≤ t.val) (x : S1024x1024.Idx) :
    result m c (((cfg0.win 6).blk t).view.emb x) = tileOf m c t x := by
  have h0 : (x 0).val < 1024 := (x 0).isLt
  rw [out_emb t ht x]
  have e1 : 11 + ((t.val - 11) * 1024 + (x 0).val) / 1024 = t.val := by omega
  have e2 : ((t.val - 11) * 1024 + (x 0).val) % 1024 = (x 0).val := by omega
  have p1 : pt (11 + ((t.val - 11) * 1024 + (x 0).val) / 1024) = t := (congrArg pt e1).trans (pt_val t)
  have p2 : (ix2 (⟨((t.val - 11) * 1024 + (x 0).val) % 1024, Nat.mod_lt _ (by decide)⟩ : Fin 1024) (x 1) : S1024x1024.Idx) = x :=
    funext fun a => Fin.ext (match a with | ⟨0, _⟩ => e2 | ⟨1, _⟩ => rfl)
  exact congr (congrArg (tileOf m c) p1) p2

/-- Every execution from any memory leaves the result array in the result's buffer, whatever core one looks at. -/
theorem run_result : θ_run defs (onTc (τ := τ) (main (F := F))) ⟨m, fun _ => 0, ρ⟩ (fun r => (∀ c : Dev nD,
      r.2.mem ((c.tc : Thread nD τ).loc main_v7) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c => by
    have rest := (h.1 c).2
    refine ⟨?_, (rest main_arg0 (Pipeline.mem_restRefs_of main_arg0 (by decide) (by decide))).trans (V_main_arg0 m c),
      (rest main_arg1 (Pipeline.mem_restRefs_of main_arg1 (by decide) (by decide))).trans (V_main_arg1 m c),
      (rest main_arg2 (Pipeline.mem_restRefs_of main_arg2 (by decide) (by decide))).trans (V_main_arg2 m c),
      (rest main_arg3 (Pipeline.mem_restRefs_of main_arg3 (by decide) (by decide))).trans (V_main_arg3 m c),
      (rest main_arg4 (Pipeline.mem_restRefs_of main_arg4 (by decide) (by decide))).trans (V_main_arg4 m c)⟩
    obtain ⟨after, hL, hA⟩ := RDat.FramePost.exists_exact h.1 c
    have hcov : ((rdat m c).withAfter after).arrAt 6 cfg0.N = result m c := by
      refine Dat.arrAt_eq_of_cover ((rdat m c).withAfter after) 6 (result m c) (fun t hf => ?_) (fun i => ?_)
      · have ht := flush_tile t hf
        have hX : after 6 t = tileOf m c t :=
          (dat m c).toRRel_leaves (fgt := isOutput) (Rl := left m c) (w := 6) rfl (hL 6 t hf) ht
        funext x
        exact (congrFun hX x).trans (result_emb m c t ht x).symm
      · have hi : (i 0).val < 16384 := (i 0).isLt
        have ht : (pt (11 + (i 0).val / 1024)).val = 11 + (i 0).val / 1024 := Nat.mod_eq_of_lt (by omega)
        refine ⟨pt (11 + (i 0).val / 1024), tile_flush _ (by omega), ?_⟩
        have he := ((cfg0.win 6).blk (pt (11 + (i 0).val / 1024))).view.emb_mem_set (ix2 (⟨(i 0).val % 1024, Nat.mod_lt _ (by decide)⟩ : Fin 1024) (i 1) : S1024x1024.Idx)
        rw [out_emb _ (by omega)] at he
        refine (congrArg (· ∈ _) ?_).mp he
        refine funext fun a => Fin.ext ?_
        match a with
        | ⟨0, _⟩ => show ((pt (11 + (i 0).val / 1024)).val - 11) * 1024 + (i 0).val % 1024 = (i 0).val; rw [ht]; omega
        | ⟨1, _⟩ => rfl
    exact (hA 6).trans hcov, h.2⟩) (run_main m ρ)

end Cert.Ffn1Ideal.Run

end
-- ==== Proof.FfnMath.lean ====
/-
  The feed-forward row over the extended reals: the root-mean-square scaling of a row, the gate, the projections, and
  the equality of the two ways of writing the gate (by the hyperbolic tangent, and by the logistic function) on the
  reals. Nothing here mentions a program.
-/
module

public import Idealize.ShloMosaic.PureOps.Ideal.Laws
public import Mathlib.Tactic.FieldSimp
public import Mathlib.Tactic.Positivity

@[expose] public section

noncomputable section

namespace Cert.Ffn

open Idealize.ShloMosaic
open scoped BigOperators

/-- The row length, one thousand and twenty-four, as its float word. -/
abbrev len : EReal := Ideal.ofBits .f32 0x44800000#32
/-- The regulariser of the mean square, as its float word. -/
abbrev eps : EReal := Ideal.ofBits .f32 0x358637BD#32
/-- One half, as its float word. -/
abbrev half : EReal := Ideal.ofBits .f32 0x3F000000#32
/-- One, as its float word. -/
abbrev one : EReal := Ideal.ofBits .f32 0x3F800000#32

/-- The factor that scales a row to unit mean square. -/
def factor (x : Fin 1024 → EReal) : EReal := Ideal.rsqrt (Ideal.div (∑ k, x k * x k) len + eps)

/-- A row scaled to unit mean square and multiplied by a gain. -/
def normed (x g : Fin 1024 → EReal) : Fin 1024 → EReal := fun k => x k * factor x * g k

/-- The gate as the kernel writes it, by the hyperbolic tangent of half the argument. -/
def gateTanh (u v : EReal) : EReal := (half * u + half * u * Ideal.tanh (half * u)) * v

/-- The gate as the reference writes it, by the logistic function. -/
def gateLogistic (u v : EReal) : EReal := u * Ideal.div one (one + Ideal.exp (-u)) * v

/-- One hidden unit of a normed row `h`: a gate of its two projections. -/
def unit (act : EReal → EReal → EReal) (h : Fin 1024 → EReal) (wg wu : Fin 1024 → Fin 2816 → EReal) (n : Fin 2816) : EReal :=
  act (∑ k, h k * wg k n) (∑ k, h k * wu k n)

/-- The feed-forward row added at half weight to its input. -/
def row (act : EReal → EReal → EReal) (x g : Fin 1024 → EReal) (wg wu : Fin 1024 → Fin 2816 → EReal)
    (wd : Fin 2816 → Fin 1024 → EReal) : Fin 1024 → EReal :=
  fun j => x j + half * ∑ n, unit act (normed x g) wg wu n * wd n j

/-- An extended real is a real number. -/
def IsReal (a : EReal) : Prop := ∃ r : ℝ, a = r

theorem IsReal.mul {a b : EReal} : IsReal a → IsReal b → IsReal (a * b) :=
  fun ⟨r, hr⟩ ⟨s, hs⟩ => ⟨r * s, by rw [hr, hs, EReal.coe_mul]⟩

theorem IsReal.add {a b : EReal} : IsReal a → IsReal b → IsReal (a + b) :=
  fun ⟨r, hr⟩ ⟨s, hs⟩ => ⟨r + s, by rw [hr, hs, EReal.coe_add]⟩

/-- A finite sum of real numbers is a real number. -/
theorem isReal_sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

/-- The word of one half denotes one half. -/
theorem half_eq : half = ((1 / 2 : ℝ) : EReal) := by
  have h : half = ((8388608 * (2 ^ 24)⁻¹ : ℝ) : EReal) := by simp [half, Ideal.ofBits, Ideal.ieee, zpow_neg] <;> norm_num
  rw [h]; congr 1; norm_num

/-- The word of one denotes one. -/
theorem one_eq : one = 1 := by
  have h : one = ((8388608 * (2 ^ 23)⁻¹ : ℝ) : EReal) := by simp [one, Ideal.ofBits, Ideal.ieee, zpow_neg] <;> norm_num
  rw [h, ← EReal.coe_one]; congr 1; norm_num

/-- The word of the row length denotes it. -/
theorem len_eq : len = ((1024 : ℝ) : EReal) := by
  have h : len = ((8388608 * (2 ^ 13)⁻¹ : ℝ) : EReal) := by simp [len, Ideal.ofBits, Ideal.ieee, zpow_neg] <;> norm_num
  rw [h]; congr 1; norm_num

/-- The regulariser is a positive real number. -/
theorem eps_pos : ∃ e : ℝ, 0 < e ∧ eps = e := by
  have h : eps = ((8796093 * (2 : ℝ) ^ (-43 : ℤ) : ℝ) : EReal) := by
    simp [eps, Ideal.ofBits, Ideal.ieee]
  exact ⟨_, by positivity, h⟩

/-- A finite sum of real numbers, taken among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- On the reals the two gates agree. -/
theorem silu_real (r : ℝ) : r / 2 + r / 2 * Real.tanh (r / 2) = r * (1 + Real.exp (-r))⁻¹ := by
  have h1 : Real.exp (-r) = (Real.exp (r / 2))⁻¹ * (Real.exp (r / 2))⁻¹ := by
    rw [← Real.exp_neg, ← Real.exp_add]; congr 1; ring
  rw [Real.tanh_eq_sinh_div_cosh, Real.sinh_eq, Real.cosh_eq, h1, Real.exp_neg]
  have he : 0 < Real.exp (r / 2) := Real.exp_pos _
  generalize Real.exp (r / 2) = e at he
  have : e ≠ 0 := he.ne'
  field_simp
  ring

/-- The two gates agree where the gate's argument is a real number, whatever it multiplies. -/
theorem gate_eq {u : EReal} (hu : IsReal u) (v : EReal) : gateTanh u v = gateLogistic u v := by
  obtain ⟨r, rfl⟩ := hu
  have h1 : half * (r : EReal) = ((r / 2 : ℝ) : EReal) := by
    rw [half_eq, ← EReal.coe_mul]; congr 1; ring
  have h2 : Ideal.div one (one + Ideal.exp (-(r : EReal))) = (((1 + Real.exp (-r))⁻¹ : ℝ) : EReal) := by
    rw [one_eq]; exact Ideal.logistic_coe r
  unfold gateTanh gateLogistic
  rw [h1, h2, Ideal.tanh_coe, ← EReal.coe_mul, ← EReal.coe_add, silu_real, EReal.coe_mul]

/-- A square is not negative. -/
theorem sq_nonneg' (a : EReal) : 0 ≤ a * a := by
  induction a using EReal.rec with
  | bot => simp
  | top => simp
  | coe r => rw [← EReal.coe_mul]; exact_mod_cast mul_self_nonneg r

/-- A row scaled to unit mean square has real entries, whatever the row's are: an infinite entry makes the factor zero. -/
theorem scaled_isReal (x : Fin 1024 → EReal) (k : Fin 1024) : IsReal (x k * factor x) := by
  obtain ⟨e, he, hee⟩ := eps_pos
  by_cases h : ∀ i, IsReal (x i)
  · choose f hf using h
    have hs : (∑ i, x i * x i) = ((∑ i, f i * f i : ℝ) : EReal) := by
      rw [coe_sum]
      exact Finset.sum_congr rfl fun i _ => by rw [hf i, EReal.coe_mul]
    have h0 : 0 ≤ ∑ i, f i * f i := Finset.sum_nonneg fun i _ => mul_self_nonneg _
    have hp : 0 < (∑ i, f i * f i) * (1 / 1024) + e := by positivity
    refine (hf k ▸ ⟨f k, rfl⟩ : IsReal (x k)).mul ?_
    unfold factor
    rw [hs, len_eq, hee, Ideal.div_coe (by norm_num), ← EReal.coe_mul, ← EReal.coe_add, Ideal.rsqrt_coe,
      if_neg hp.le.not_gt, if_neg hp.ne']
    exact ⟨_, rfl⟩
  · push Not at h
    obtain ⟨i, hi⟩ := h
    have hsq : x i * x i = ⊤ := by
      induction hxi : x i using EReal.rec with
      | bot => exact EReal.bot_mul_bot
      | top => exact EReal.top_mul_top
      | coe r => exact absurd ⟨r, hxi⟩ hi
    have hs : (∑ j, x j * x j) = ⊤ :=
      top_le_iff.mp (hsq ▸ Finset.single_le_sum (f := fun j => x j * x j) (fun j _ => sq_nonneg' (x j)) (Finset.mem_univ i))
    have hf : factor x = 0 := by
      unfold factor
      rw [hs, len_eq, hee, Ideal.div_coe (by norm_num), EReal.top_mul_coe_of_pos (by norm_num),
        EReal.top_add_coe, Ideal.rsqrt_top]
    rw [hf, mul_zero]
    exact ⟨0, EReal.coe_zero.symm⟩

/-- With a real gain and real gate weights the two rows agree, whatever the input, the other weights and the output
    weights are. -/
theorem row_eq (x g : Fin 1024 → EReal) (wg wu : Fin 1024 → Fin 2816 → EReal) (wd : Fin 2816 → Fin 1024 → EReal)
    (hg : ∀ k, IsReal (g k)) (hw : ∀ k n, IsReal (wg k n)) :
    row gateTanh x g wg wu wd = row gateLogistic x g wg wu wd := by
  funext j
  unfold row
  refine congrArg (x j + half * ·) (Finset.sum_congr rfl fun n _ => congrArg (· * wd n j) ?_)
  exact gate_eq (isReal_sum _ _ fun k => ((scaled_isReal x k).mul (hg k)).mul (hw k n)) _

/-- The word of infinity denotes it. -/
theorem top_eq : Ideal.ofBits .f32 0x7F800000#32 = ⊤ := by simp [Ideal.ofBits, Ideal.ieee]

/-- A number whose absolute value is less than infinity is a real number. -/
theorem isReal_of_finite {a : EReal} (h : Ideal.cmp .olt (max a (-a)) (Ideal.ofBits .f32 0x7F800000#32) = 1#1) : IsReal a := by
  rw [top_eq] at h
  induction a using EReal.rec with
  | bot => simp [Ideal.cmp] at h
  | top => simp [Ideal.cmp] at h
  | coe r => exact ⟨r, rfl⟩

end Cert.Ffn

end
-- ==== Proof.FfnShape.lean ====
/-
  How the reshapes around the feed-forward calls read at an element.
-/
module

public import Idealize.ShloMosaic.Lib.Pointwise
public import Idealize.ShloMosaic.Lib.ValueIdx

@[expose] public section

noncomputable section

namespace Cert.Ffn

open Idealize.ShloMosaic

/-- Dropping a leading unit axis reads the element under it. -/
theorem dropUnit_ix2 {K N : ℕ} {α : Type} (v : (⟨3, ![1, K, N]⟩ : Shape).Idx → α) (h : (⟨3, ![1, K, N]⟩ : Shape).ShapeCasts ⟨2, ![K, N]⟩)
    (k : Fin K) (n : Fin N) : shapeCast ⟨2, ![K, N]⟩ v h (ix2 k n) = v (ix3 0 k n) :=
  (shapeCast_dropUnit_apply ![K, N] v h (ix2 k n)).trans (congrArg v (funext fun a => match a with
    | ⟨0, _⟩ => rfl | ⟨1, _⟩ => rfl | ⟨2, _⟩ => rfl))

/-- Adding a leading unit axis reads the element under it. -/
theorem addUnit_ix2 {N : ℕ} {α : Type} (v : (⟨1, ![N]⟩ : Shape).Idx → α) (h : (⟨1, ![N]⟩ : Shape).ShapeCasts ⟨2, ![1, N]⟩)
    (n : Fin N) : shapeCast ⟨2, ![1, N]⟩ v h (ix2 0 n) = v (ix1 n) :=
  (shapeCast_addUnit_apply ![N] v h (ix2 0 n)).trans (congrArg v (funext fun a => match a with
    | ⟨0, _⟩ => rfl))

/-- Flattening the batch and sequence axes reads row `r` at batch `r / 2048` and position `r % 2048`. -/
theorem flat_ix2 {α : Type} (v : (⟨3, ![8, 2048, 1024]⟩ : Shape).Idx → α)
    (h : (⟨3, ![8, 2048, 1024]⟩ : Shape).ShapeCasts ⟨2, ![16384, 1024]⟩) (r : Fin 16384) (k : Fin 1024) :
    shapeCast ⟨2, ![16384, 1024]⟩ v h (ix2 r k)
      = v (ix3 (⟨r.val / 2048, by omega⟩ : Fin 8) (⟨r.val % 2048, Nat.mod_lt _ (by decide)⟩ : Fin 2048) k) :=
  shapeCast_apply v h (ix2 r k) _ (by
    rewrite [Shape.rowMajor_val_three, Shape.rowMajor_val_two]
    show (r.val / 2048 * 2048 + r.val % 2048) * 1024 + k.val = r.val * 1024 + k.val
    omega)

end Cert.Ffn

end
-- ==== Proof.Ffn1Value.lean ====
/-
  The first feed-forward's result at an element, over the reals: the feed-forward row of `FfnMath`, by the tanh gate.
-/
module

public import proofs.«01_k».proof.Proof.Ffn1Frame
public import proofs.«01_k».proof.Proof.FfnMath
public import proofs.«01_k».proof.Proof.FfnShape
public import Idealize.ShloMosaic.Lib.Pointwise

@[expose] public section

noncomputable section

namespace Cert.Ffn1Ideal.Run

open Cert.Ffn1Ideal Cert.Ffn1Ideal.Gen Cert.Ffn Idealize.ShloMosaic Idealize.ShloMosaic.TcCoe Idealize.SL.Sem
open scoped BigOperators

/-- The normed tile at an element is the normed row. -/
theorem norm_apply (x : Vec Ideal S1024x1024 .f32) (g : Vec Ideal S1x1024 .f32) (r k : Fin 1024) :
    k0_pay8 (F := Ideal) x g (ix2 r k) = normed (fun k => x (ix2 r k)) (fun k => g (ix2 0 k)) k := by
  pointwise [k0_pay8, k0_pay7]
  rfl

/-- A block of hidden units at an element is the gate of its two projections. -/
theorem unit_apply (h : FVec Ideal S1024x1024 .bf16) (a b : Vec Ideal S1x1024x256 .bf16) (r : Fin 1024) (n : Fin 256) :
    k0_pay12 (F := Ideal) h a b (ix2 r n)
      = gateTanh (∑ k : Fin 1024, h (ix2 r k) * a (ix3 0 k n)) (∑ k : Fin 1024, h (ix2 r k) * b (ix3 0 k n)) := by
  pointwise [k0_pay12]
  rfl

/-- The output tile at an element: the row and half its projected hidden units. -/
theorem out_apply (x : Vec Ideal S1024x1024 .f32) (h : Vec Ideal S1024x2816 .bf16) (wd : Vec Ideal S2816x1024 .bf16) (r j : Fin 1024) :
    k0_pay6 (F := Ideal) (k0_pay7 x) h wd (ix2 r j) = x (ix2 r j) + half * ∑ n : Fin 2816, h (ix2 r n) * wd (ix2 n j) := by
  pointwise [k0_pay6, k0_pay7]

/-- A cast block of gate weights at an element: over the reals a cast changes nothing. -/
theorem cast1_apply (v : Vec Ideal S1024x256 .f32) (k : Fin 1024) (n : Fin 256) : k0_pay1 (F := Ideal) v (ix3 0 k n) = v (ix2 k n) := by
  pointwise [k0_pay1]

/-- A cast block of up weights at an element. -/
theorem cast2_apply (v : Vec Ideal S1024x256 .f32) (k : Fin 1024) (n : Fin 256) : k0_pay2 (F := Ideal) v (ix3 0 k n) = v (ix2 k n) := by
  pointwise [k0_pay2]

/-- A cast block of down weights at an element. -/
theorem cast3_apply (v : Vec Ideal S256x1024 .f32) (k : Fin 256) (n : Fin 1024) : k0_pay3 (F := Ideal) v (ix2 k n) = v (ix2 k n) := by
  pointwise [k0_pay3]

variable (m : (ℓ : Loc nD τ sig) → Buf (Elt Ideal) ℓ)

/-- The gain as the launch finds it. -/
theorem V_gain (c : Dev nD) :
    (V m c main_v3 : Vec Ideal S1x1024 .f32) = (m ((c.tc : Thread nD τ).loc main_arg1) : Vec Ideal S1x1024 .f32) := by
  have h : (V m c main_v3 : Vec Ideal S1x1024 .f32)
      = shapeCast S1x1024 (shapeCast S1024 (m ((c.tc : Thread nD τ).loc main_arg1) : Vec Ideal S1x1024 .f32) shapeCasts_S1x1024_S1024) shapeCasts_S1024_S1x1024 := by
    unfold V
    simp only [hostOps0]
    after_results_simp <;> rfl
  rw [h, shapeCast_shapeCast]

/-- The input's rows as the launch finds them. -/
theorem V_rows (c : Dev nD) (r : Fin 16384) (k : Fin 1024) :
    (V m c main_v1 : Vec Ideal S16384x1024 .f32) (ix2 r k) = (m ((c.tc : Thread nD τ).loc main_arg0) : Vec Ideal S8x2048x1024 .f32)
      (ix3 (⟨r.val / 2048, by omega⟩ : Fin 8) (⟨r.val % 2048, Nat.mod_lt _ (by decide)⟩ : Fin 2048) k) := by
  have h : (V m c main_v1 : Vec Ideal S16384x1024 .f32)
      = shapeCast S16384x1024 (m ((c.tc : Thread nD τ).loc main_arg0) : Vec Ideal S8x2048x1024 .f32) shapeCasts_S8x2048x1024_S16384x1024 := by
    unfold V
    simp only [hostOps0]
    after_results_simp <;> rfl
  rw [h]
  exact flat_ix2 _ _ r k

/-- The gate weights as the launch finds them. -/
theorem V_gate (c : Dev nD) (k : Fin 1024) (n : Fin 2816) :
    (V m c main_v4 : Vec Ideal S1024x2816 .f32) (ix2 k n) = (m ((c.tc : Thread nD τ).loc main_arg2) : Vec Ideal S1x1024x2816 .f32) (ix3 0 k n) := by
  have h : (V m c main_v4 : Vec Ideal S1024x2816 .f32)
      = shapeCast S1024x2816 (m ((c.tc : Thread nD τ).loc main_arg2) : Vec Ideal S1x1024x2816 .f32) shapeCasts_S1x1024x2816_S1024x2816 := by
    unfold V
    simp only [hostOps0]
    after_results_simp <;> rfl
  rw [h]
  exact dropUnit_ix2 _ _ k n

/-- The up weights as the launch finds them. -/
theorem V_up (c : Dev nD) (k : Fin 1024) (n : Fin 2816) :
    (V m c main_v5 : Vec Ideal S1024x2816 .f32) (ix2 k n) = (m ((c.tc : Thread nD τ).loc main_arg3) : Vec Ideal S1x1024x2816 .f32) (ix3 0 k n) := by
  have h : (V m c main_v5 : Vec Ideal S1024x2816 .f32)
      = shapeCast S1024x2816 (m ((c.tc : Thread nD τ).loc main_arg3) : Vec Ideal S1x1024x2816 .f32) shapeCasts_S1x1024x2816_S1024x2816 := by
    unfold V
    simp only [hostOps0]
    after_results_simp <;> rfl
  rw [h]
  exact dropUnit_ix2 _ _ k n

/-- The down weights as the launch finds them. -/
theorem V_down (c : Dev nD) (k : Fin 2816) (n : Fin 1024) :
    (V m c main_v6 : Vec Ideal S2816x1024 .f32) (ix2 k n) = (m ((c.tc : Thread nD τ).loc main_arg4) : Vec Ideal S1x2816x1024 .f32) (ix3 0 k n) := by
  have h : (V m c main_v6 : Vec Ideal S2816x1024 .f32)
      = shapeCast S2816x1024 (m ((c.tc : Thread nD τ).loc main_arg4) : Vec Ideal S1x2816x1024 .f32) shapeCasts_S1x2816x1024_S2816x1024 := by
    unfold V
    simp only [hostOps0]
    after_results_simp <;> rfl
  rw [h]
  exact dropUnit_ix2 _ _ k n

/-- Where the block of the gate weights at a staging point starts. -/
theorem gate_index : ∀ t : Fin cfg0.N, t.val < 11 → (cfg0.win 2).index t 0 = 0 ∧ (cfg0.win 2).index t 1 = t.val := by decide +kernel

/-- The block of the gate weights at a staging point. -/
theorem iblk_gate (c : Dev nD) (t : Fin cfg0.N) (ht : t.val < 11) (k : Fin 1024) (n : Fin 256) :
    (iblk m c 2 t : Vec Ideal S1024x256 .f32) (ix2 k n)
      = (m ((c.tc : Thread nD τ).loc main_arg2) : Vec Ideal S1x1024x2816 .f32) (ix3 0 (k : Fin 1024) (⟨t.val * 256 + n.val, by omega⟩ : Fin 2816)) := by
  obtain ⟨i0, i1⟩ := gate_index t ht
  rw [← V_gate m c]
  show V m c main_v4 (((cfg0.win 2).blk t).view.emb (ix2 k n)) = _
  refine congrArg (V m c main_v4) (funext fun a => Fin.ext ?_)
  match a with
  | ⟨0, _⟩ => exact (Pipeline.Window.rect_emb_val (cfg0.win 2) t _ 0).trans (by rw [i0]; show 0 * 1024 + k.val = k.val; omega)
  | ⟨1, _⟩ => exact (Pipeline.Window.rect_emb_val (cfg0.win 2) t _ 1).trans (by rw [i1]; rfl)

/-- Where the block of the up weights at a staging point starts. -/
theorem up_index : ∀ t : Fin cfg0.N, t.val < 11 → (cfg0.win 3).index t 0 = 0 ∧ (cfg0.win 3).index t 1 = t.val := by decide +kernel

/-- The block of the up weights at a staging point. -/
theorem iblk_up (c : Dev nD) (t : Fin cfg0.N) (ht : t.val < 11) (k : Fin 1024) (n : Fin 256) :
    (iblk m c 3 t : Vec Ideal S1024x256 .f32) (ix2 k n)
      = (m ((c.tc : Thread nD τ).loc main_arg3) : Vec Ideal S1x1024x2816 .f32) (ix3 0 (k : Fin 1024) (⟨t.val * 256 + n.val, by omega⟩ : Fin 2816)) := by
  obtain ⟨i0, i1⟩ := up_index t ht
  rw [← V_up m c]
  show V m c main_v5 (((cfg0.win 3).blk t).view.emb (ix2 k n)) = _
  refine congrArg (V m c main_v5) (funext fun a => Fin.ext ?_)
  match a with
  | ⟨0, _⟩ => exact (Pipeline.Window.rect_emb_val (cfg0.win 3) t _ 0).trans (by rw [i0]; show 0 * 1024 + k.val = k.val; omega)
  | ⟨1, _⟩ => exact (Pipeline.Window.rect_emb_val (cfg0.win 3) t _ 1).trans (by rw [i1]; rfl)

/-- Where the block of the down weights at a staging point starts. -/
theorem down_index : ∀ t : Fin cfg0.N, t.val < 11 → (cfg0.win 4).index t 0 = t.val ∧ (cfg0.win 4).index t 1 = 0 := by decide +kernel

/-- The block of the down weights at a staging point. -/
theorem iblk_down (c : Dev nD) (t : Fin cfg0.N) (ht : t.val < 11) (k : Fin 256) (n : Fin 1024) :
    (iblk m c 4 t : Vec Ideal S256x1024 .f32) (ix2 k n)
      = (m ((c.tc : Thread nD τ).loc main_arg4) : Vec Ideal S1x2816x1024 .f32) (ix3 0 (⟨t.val * 256 + k.val, by omega⟩ : Fin 2816) (n : Fin 1024)) := by
  obtain ⟨i0, i1⟩ := down_index t ht
  rw [← V_down m c]
  show V m c main_v6 (((cfg0.win 4).blk t).view.emb (ix2 k n)) = _
  refine congrArg (V m c main_v6) (funext fun a => Fin.ext ?_)
  match a with
  | ⟨0, _⟩ => exact (Pipeline.Window.rect_emb_val (cfg0.win 4) t _ 0).trans (by rw [i0]; rfl)
  | ⟨1, _⟩ => exact (Pipeline.Window.rect_emb_val (cfg0.win 4) t _ 1).trans (by rw [i1]; show 0 * 1024 + n.val = n.val; omega)

/-- Where the input's block at a tile point starts. -/
theorem tile_index : ∀ t : Fin cfg0.N, 11 ≤ t.val → (cfg0.win 0).index t 0 = t.val - 11 ∧ (cfg0.win 0).index t 1 = 0 := by decide +kernel

/-- The gain's block is the whole array. -/
theorem gain_index : ∀ t : Fin cfg0.N, (cfg0.win 1).index t 0 = 0 ∧ (cfg0.win 1).index t 1 = 0 := by decide +kernel

/-- The input's block at the tile point of a row. -/
theorem iblk_tile (c : Dev nD) (q : Fin 16) (r k : Fin 1024) :
    (iblk m c 0 (pt (11 + q.val)) : Vec Ideal S1024x1024 .f32) (ix2 r k)
      = (V m c main_v1 : Vec Ideal S16384x1024 .f32) (ix2 (⟨q.val * 1024 + r.val, by omega⟩ : Fin 16384) k) := by
  have ht : (pt (11 + q.val)).val = 11 + q.val := Nat.mod_eq_of_lt (by omega)
  obtain ⟨i0, i1⟩ := tile_index (pt (11 + q.val)) (by omega)
  show V m c main_v1 (((cfg0.win 0).blk (pt (11 + q.val))).view.emb (ix2 r k)) = _
  refine congrArg (V m c main_v1) (funext fun a => Fin.ext ?_)
  match a with
  | ⟨0, _⟩ => exact (Pipeline.Window.rect_emb_val (cfg0.win 0) _ _ 0).trans (by rw [i0, ht, Nat.add_sub_cancel_left]; rfl)
  | ⟨1, _⟩ => exact (Pipeline.Window.rect_emb_val (cfg0.win 0) _ _ 1).trans (by rw [i1]; show 0 * 1024 + k.val = k.val; omega)

/-- The gain's block at any point. -/
theorem iblk_gain (c : Dev nD) (t : Fin cfg0.N) (k : Fin 1024) :
    (iblk m c 1 t : Vec Ideal S1x1024 .f32) (ix2 0 k) = (m ((c.tc : Thread nD τ).loc main_arg1) : Vec Ideal S1x1024 .f32) (ix2 0 k) := by
  obtain ⟨i0, i1⟩ := gain_index t
  rw [← V_gain m c]
  show V m c main_v3 (((cfg0.win 1).blk t).view.emb (ix2 0 k)) = _
  refine congrArg (V m c main_v3) (funext fun a => Fin.ext ?_)
  match a with
  | ⟨0, _⟩ => exact (Pipeline.Window.rect_emb_val (cfg0.win 1) t _ 0).trans (by rw [i0]; rfl)
  | ⟨1, _⟩ => exact (Pipeline.Window.rect_emb_val (cfg0.win 1) t _ 1).trans (by rw [i1]; show 0 * 1024 + k.val = k.val; omega)

/-- The staged gate weights at an element. -/
theorem WG_apply (c : Dev nD) (i : Fin 11) (k : Fin 1024) (n : Fin 256) :
    WG m c (ix3 i k n) = (m ((c.tc : Thread nD τ).loc main_arg2) : Vec Ideal S1x1024x2816 .f32) (ix3 0 k (⟨i.val * 256 + n.val, by omega⟩ : Fin 2816)) := by
  have ht : (pt i.val).val = i.val := Nat.mod_eq_of_lt (by omega)
  have h := iblk_gate m c (pt i.val) (by omega) k n
  simp only [ht] at h
  rw [← h]
  exact cast1_apply _ k n

/-- The staged up weights at an element. -/
theorem WU_apply (c : Dev nD) (i : Fin 11) (k : Fin 1024) (n : Fin 256) :
    WU m c (ix3 i k n) = (m ((c.tc : Thread nD τ).loc main_arg3) : Vec Ideal S1x1024x2816 .f32) (ix3 0 k (⟨i.val * 256 + n.val, by omega⟩ : Fin 2816)) := by
  have ht : (pt i.val).val = i.val := Nat.mod_eq_of_lt (by omega)
  have h := iblk_up m c (pt i.val) (by omega) k n
  simp only [ht] at h
  rw [← h]
  exact cast2_apply _ k n

/-- The staged down weights at an element. -/
theorem WD_apply (c : Dev nD) (n : Fin 2816) (j : Fin 1024) :
    WD m c (ix2 n j) = (m ((c.tc : Thread nD τ).loc main_arg4) : Vec Ideal S1x2816x1024 .f32) (ix3 0 n j) := by
  have ht : (pt (n.val / 256)).val = n.val / 256 := Nat.mod_eq_of_lt (by omega)
  have h := iblk_down m c (pt (n.val / 256)) (by omega) (⟨n.val % 256, Nat.mod_lt _ (by decide)⟩ : Fin 256) j
  simp only [ht, Nat.div_add_mod'] at h
  rw [← h]
  exact cast3_apply _ _ j

/-- The hidden units at an element. -/
theorem acts_apply (c : Dev nD) (h : FVec Ideal S1024x1024 .bf16) (r : Fin 1024) (n : Fin 2816) :
    acts h (WG m c) (WU m c) (ix2 r n) = unit gateTanh (fun k => h (ix2 r k))
      (fun k n => (m ((c.tc : Thread nD τ).loc main_arg2) : Vec Ideal S1x1024x2816 .f32) (ix3 0 k n))
      (fun k n => (m ((c.tc : Thread nD τ).loc main_arg3) : Vec Ideal S1x1024x2816 .f32) (ix3 0 k n)) n := by
  have e : n.val / 256 * 256 + n.val % 256 = n.val := Nat.div_add_mod' _ _
  refine (unit_apply h _ _ r (⟨n.val % 256, Nat.mod_lt _ (by decide)⟩ : Fin 256)).trans ?_
  unfold unit
  refine congr (congrArg gateTanh (Finset.sum_congr rfl fun k _ => congrArg (h (ix2 r k) * ·) ?_))
    (Finset.sum_congr rfl fun k _ => congrArg (h (ix2 r k) * ·) ?_)
  · exact (WG_apply m c (⟨n.val / 256, by omega⟩ : Fin 11) k _).trans
      (congrArg (fun z => (m ((c.tc : Thread nD τ).loc main_arg2) : Vec Ideal S1x1024x2816 .f32) (ix3 0 k z)) (Fin.ext e))
  · exact (WU_apply m c (⟨n.val / 256, by omega⟩ : Fin 11) k _).trans
      (congrArg (fun z => (m ((c.tc : Thread nD τ).loc main_arg3) : Vec Ideal S1x1024x2816 .f32) (ix3 0 k z)) (Fin.ext e))

/-- The result at an element: the row's feed-forward, by the gate of the hyperbolic tangent. -/
theorem result_apply (c : Dev nD) (r : Fin 16384) (j : Fin 1024) :
    result m c (ix2 r j) = row gateTanh
        (fun k => (m ((c.tc : Thread nD τ).loc main_arg0) : Vec Ideal S8x2048x1024 .f32) (ix3 (⟨r.val / 2048, by omega⟩ : Fin 8) (⟨r.val % 2048, Nat.mod_lt _ (by decide)⟩ : Fin 2048) k))
        (fun k => (m ((c.tc : Thread nD τ).loc main_arg1) : Vec Ideal S1x1024 .f32) (ix2 0 k))
        (fun k n => (m ((c.tc : Thread nD τ).loc main_arg2) : Vec Ideal S1x1024x2816 .f32) (ix3 0 k n))
        (fun k n => (m ((c.tc : Thread nD τ).loc main_arg3) : Vec Ideal S1x1024x2816 .f32) (ix3 0 k n))
        (fun n k => (m ((c.tc : Thread nD τ).loc main_arg4) : Vec Ideal S1x2816x1024 .f32) (ix3 0 n k)) j := by
  have e : r.val / 1024 * 1024 + r.val % 1024 = r.val := Nat.div_add_mod' _ _
  have hx : ∀ k : Fin 1024, (iblk m c 0 (pt (11 + r.val / 1024)) : Vec Ideal S1024x1024 .f32) (ix2 (⟨r.val % 1024, Nat.mod_lt _ (by decide)⟩ : Fin 1024) k)
      = (m ((c.tc : Thread nD τ).loc main_arg0) : Vec Ideal S8x2048x1024 .f32) (ix3 (⟨r.val / 2048, by omega⟩ : Fin 8) (⟨r.val % 2048, Nat.mod_lt _ (by decide)⟩ : Fin 2048) k) := fun k => by
    rw [← V_rows m c r k]
    refine (iblk_tile m c (⟨r.val / 1024, by omega⟩ : Fin 16) _ k).trans ?_
    simp only [e]
  refine (out_apply _ _ _ _ j).trans ?_
  unfold row
  refine congr (congrArg _ (hx j)) (congrArg (half * ·) (Finset.sum_congr rfl fun n _ => congr (congrArg _ ?_) (WD_apply m c n j)))
  refine (acts_apply m c _ _ n).trans (congrArg (fun h => unit gateTanh h _ _ n) (funext fun k => ?_))
  refine (norm_apply _ _ _ k).trans (congrFun (congr (congrArg normed (funext hx)) (funext fun k => iblk_gain m c _ k)) k)

end Cert.Ffn1Ideal.Run

end
-- ==== Proof.Ffn1Ref.lean ====
/-
  The reference of the first feed-forward at an element: the feed-forward row of `FfnMath`, by the logistic gate.
-/
module

public import proofs.«01_k».proof.Proof.Gen.RefFfn1Ideal.Run
public import proofs.«01_k».proof.Proof.Gen.RefFfn1Ideal.Read
public import proofs.«01_k».proof.Proof.FfnMath
public import proofs.«01_k».proof.Proof.FfnShape
public import Idealize.ShloMosaic.Lib.Pointwise
public import Idealize.ShloMosaic.Lib.Quiescent

@[expose] public section

noncomputable section

namespace Cert.RefFfn1Ideal.Rows

open Cert.RefFfn1Ideal Cert.RefFfn1Ideal.Gen Cert.RefFfn1Ideal.Read Cert.Ffn
open Idealize.ShloMosaic Idealize.ShloMosaic.TcCoe Idealize.SL.Sem
open scoped BigOperators

/-- The reference's normed array at an element. -/
theorem norm_apply (x : Vec Ideal S8x2048x1024 .f32) (g : Vec Ideal S1x1024 .f32) (b : Fin 8) (r : Fin 2048) (k : Fin 1024) :
    val_main_v13 (F := Ideal) x g (ix3 b r k) = normed (fun k => x (ix3 b r k)) (fun k => g (ix2 0 k)) k := by
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13]
  rfl

/-- The reference's hidden units at an element. -/
theorem unit_apply (x : Vec Ideal S8x2048x1024 .f32) (g : Vec Ideal S1x1024 .f32) (wg wu : Vec Ideal S1x1024x2816 .f32) (b : Fin 8) (r : Fin 2048) (n : Fin 2816) :
    val_main_v20 (F := Ideal) x g wg wu (ix3 b r n) = unit gateLogistic (normed (fun k => x (ix3 b r k)) (fun k => g (ix2 0 k)))
      (fun k n => wg (ix3 0 k n)) (fun k n => wu (ix3 0 k n)) n := by
  simp only [unit, ← norm_apply x g b r]
  generalize hv : val_main_v13 (F := Ideal) x g = v
  pointwise [val_main_v14, val_main_v15, val_main_v16, val_main_v17, val_main_call0_v0, val_main_call0_v1, val_main_call0_cst, val_main_call0_v2, val_main_call0_v3, val_main_call0_cst_0, val_main_call0_v4, val_main_call0_v5, val_main_v18, val_main_v19, val_main_v20, hv]
  unfold gateLogistic
  rw [one_eq]

/-- The reference's summed array at an element. -/
theorem row_apply (x : Vec Ideal S8x2048x1024 .f32) (g : Vec Ideal S1x1024 .f32) (wg wu : Vec Ideal S1x1024x2816 .f32) (wd : Vec Ideal S1x2816x1024 .f32) (b : Fin 8) (r : Fin 2048) (j : Fin 1024) :
    val_main_v24 (F := Ideal) x g wg wu wd (ix3 b r j) = row gateLogistic (fun k => x (ix3 b r k)) (fun k => g (ix2 0 k))
      (fun k n => wg (ix3 0 k n)) (fun k n => wu (ix3 0 k n)) (fun n k => wd (ix3 0 n k)) j := by
  simp only [row, ← unit_apply x g wg wu b r]
  generalize hv : val_main_v20 (F := Ideal) x g wg wu = v
  pointwise [val_main_v16, val_main_v21, val_main_cst_2, val_main_v22, val_main_v23, val_main_v24, hv]

/-- The reference's result at an element. -/
theorem result_apply (x : Vec Ideal S8x2048x1024 .f32) (g : Vec Ideal S1x1024 .f32) (wg wu : Vec Ideal S1x1024x2816 .f32) (wd : Vec Ideal S1x2816x1024 .f32) (r : Fin 16384) (j : Fin 1024) :
    val_main_v25 (F := Ideal) x g wg wu wd (ix2 r j) = row gateLogistic
      (fun k => x (ix3 (⟨r.val / 2048, by omega⟩ : Fin 8) (⟨r.val % 2048, Nat.mod_lt _ (by decide)⟩ : Fin 2048) k)) (fun k => g (ix2 0 k))
      (fun k n => wg (ix3 0 k n)) (fun k n => wu (ix3 0 k n)) (fun n k => wd (ix3 0 n k)) j :=
  (flat_ix2 _ _ r j).trans (row_apply x g wg wu wd _ _ j)

end Cert.RefFfn1Ideal.Rows

end
-- ==== Proof.Ffn1Claim.lean ====
/-
  The claims about the first feed-forward: the frames at the two instances, the reference's frame, and the equality of
  the two results over the reals.
-/
module

public import proofs.«01_k».proof.Defs
public import proofs.«01_k».proof.Proof.Gen.Ffn1
public import proofs.«01_k».proof.Proof.Gen.Pre_ffn1_gate_finite
public import proofs.«01_k».proof.Proof.Ffn1Value
public import proofs.«01_k».proof.Proof.Ffn1Ref

@[expose] public section

noncomputable section

namespace Cert.Ffn1Proof

open Idealize.ShloMosaic Idealize.ShloMosaic.TcCoe Idealize.SL.Sem Cert.Ffn

set_option smartUnfolding false in
set_option maxHeartbeats 4000000 in
/-- The frame over the machine's own words. -/
theorem frame_bits : Cert.quiescent_Ffn1 (hFfn1 := Cert.Ffn1.Gen.facts) :=
  fun m g _ => (θ_run Cert.Ffn1Ideal.defs _ _).mono (fun _ h => h) (Cert.Ffn1Ideal.Run.frame (F := Bits) m g)

/-- The frame over the reals. -/
theorem frame_ideal : Cert.quiescent_Ffn1Ideal (hFfn1Ideal := Cert.Ffn1Ideal.Gen.facts) :=
  fun m g _ => Cert.Ffn1Ideal.Run.frame (F := Ideal) m g

/-- The reference's frame: it declares no semaphore, so none is left signalled. -/
theorem frame_ref : Cert.quiescent_RefFfn1Ideal (hRefFfn1Ideal := Cert.RefFfn1Ideal.Gen.facts) :=
  fun m g _ => (θ_run Cert.RefFfn1Ideal.defs _ _).mono
    (fun r h => ⟨fun c => (h c).2, sem_eq_zero_of_no_sems rfl _⟩) (Cert.RefFfn1Ideal.Value.run (F := Ideal) m g)

/-- What the precondition says: the gain and the gate weights are real numbers. -/
theorem finite_of_pre {m : (ℓ : Loc Cert.Ffn1Ideal.nD Cert.Ffn1Ideal.τ Cert.Ffn1Ideal.sig) → Buf (Elt Ideal) ℓ}
    (h : Cert.Pre_Ffn1Ideal_ffn1_gate_finite (hPre_ffn1_gate_finite := Cert.Pre_ffn1_gate_finite.Gen.facts) m) (c : Dev Cert.Ffn1Ideal.nD) :
    (∀ i, IsReal ((m ((c.tc : Thread Cert.Ffn1Ideal.nD Cert.Ffn1Ideal.τ).loc Cert.Ffn1Ideal.main_arg1) : Vec Ideal Cert.Ffn1Ideal.S1x1024 .f32) i))
      ∧ ∀ i, IsReal ((m ((c.tc : Thread Cert.Ffn1Ideal.nD Cert.Ffn1Ideal.τ).loc Cert.Ffn1Ideal.main_arg2) : Vec Ideal Cert.Ffn1Ideal.S1x1024x2816 .f32) i) :=
  ⟨fun i => isReal_of_finite (congrFun (h c).1 i), fun i => isReal_of_finite (congrFun (h c).2 i)⟩

/-- The kernel's result and the reference's are equal wherever the gain and the gate weights are real numbers. -/
theorem result_eq (m : (ℓ : Loc Cert.Ffn1Ideal.nD Cert.Ffn1Ideal.τ Cert.Ffn1Ideal.sig) → Buf (Elt Ideal) ℓ)
    (m' : (ℓ : Loc Cert.RefFfn1Ideal.nD Cert.RefFfn1Ideal.τ Cert.RefFfn1Ideal.sig) → Buf (Elt Ideal) ℓ) (c : Dev Cert.Ffn1Ideal.nD)
    (hg : ∀ i, IsReal ((m ((c.tc : Thread Cert.Ffn1Ideal.nD Cert.Ffn1Ideal.τ).loc Cert.Ffn1Ideal.main_arg1) : Vec Ideal Cert.Ffn1Ideal.S1x1024 .f32) i))
    (hw : ∀ i, IsReal ((m ((c.tc : Thread Cert.Ffn1Ideal.nD Cert.Ffn1Ideal.τ).loc Cert.Ffn1Ideal.main_arg2) : Vec Ideal Cert.Ffn1Ideal.S1x1024x2816 .f32) i))
    (e0 : m' ((c.tc : Thread Cert.RefFfn1Ideal.nD Cert.RefFfn1Ideal.τ).loc Cert.RefFfn1Ideal.main_arg0) = m ((c.tc : Thread Cert.Ffn1Ideal.nD Cert.Ffn1Ideal.τ).loc Cert.Ffn1Ideal.main_arg0))
    (e1 : m' ((c.tc : Thread Cert.RefFfn1Ideal.nD Cert.RefFfn1Ideal.τ).loc Cert.RefFfn1Ideal.main_arg1) = m ((c.tc : Thread Cert.Ffn1Ideal.nD Cert.Ffn1Ideal.τ).loc Cert.Ffn1Ideal.main_arg1))
    (e2 : m' ((c.tc : Thread Cert.RefFfn1Ideal.nD Cert.RefFfn1Ideal.τ).loc Cert.RefFfn1Ideal.main_arg2) = m ((c.tc : Thread Cert.Ffn1Ideal.nD Cert.Ffn1Ideal.τ).loc Cert.Ffn1Ideal.main_arg2))
    (e3 : m' ((c.tc : Thread Cert.RefFfn1Ideal.nD Cert.RefFfn1Ideal.τ).loc Cert.RefFfn1Ideal.main_arg3) = m ((c.tc : Thread Cert.Ffn1Ideal.nD Cert.Ffn1Ideal.τ).loc Cert.Ffn1Ideal.main_arg3))
    (e4 : m' ((c.tc : Thread Cert.RefFfn1Ideal.nD Cert.RefFfn1Ideal.τ).loc Cert.RefFfn1Ideal.main_arg4) = m ((c.tc : Thread Cert.Ffn1Ideal.nD Cert.Ffn1Ideal.τ).loc Cert.Ffn1Ideal.main_arg4)) :
    (Cert.RefFfn1Ideal.Read.val_main_v25 (F := Ideal) (m' ((c.tc : Thread Cert.RefFfn1Ideal.nD Cert.RefFfn1Ideal.τ).loc Cert.RefFfn1Ideal.main_arg0)) (m' ((c.tc : Thread Cert.RefFfn1Ideal.nD Cert.RefFfn1Ideal.τ).loc Cert.RefFfn1Ideal.main_arg1)) (m' ((c.tc : Thread Cert.RefFfn1Ideal.nD Cert.RefFfn1Ideal.τ).loc Cert.RefFfn1Ideal.main_arg2)) (m' ((c.tc : Thread Cert.RefFfn1Ideal.nD Cert.RefFfn1Ideal.τ).loc Cert.RefFfn1Ideal.main_arg3)) (m' ((c.tc : Thread Cert.RefFfn1Ideal.nD Cert.RefFfn1Ideal.τ).loc Cert.RefFfn1Ideal.main_arg4)) : Vec Ideal Cert.Ffn1Ideal.S16384x1024 .f32) = Cert.Ffn1Ideal.Run.result m c := by
  rw [e0, e1, e2, e3, e4]
  funext i
  rw [ValueIdx.eq_ix2 i]
  refine (Cert.RefFfn1Ideal.Rows.result_apply _ _ _ _ _ _ _).trans (Eq.symm ?_)
  refine (Cert.Ffn1Ideal.Run.result_apply m c _ _).trans (congrFun ?_ _)
  exact row_eq _ _ _ _ _ (fun k => hg _) (fun k n => hw _)

/-- Over the reals the kernel computes the reference. -/
theorem algebraic : Cert.algebraic_Ffn1Ideal_RefFfn1Ideal_pre_ffn1_gate_finite (hFfn1Ideal := Cert.Ffn1Ideal.Gen.facts)
    (hRefFfn1Ideal := Cert.RefFfn1Ideal.Gen.facts) (hPre_ffn1_gate_finite := Cert.Pre_ffn1_gate_finite.Gen.facts) :=
  fun m g m' g' hpre hargs => ⟨fun c => Cert.Ffn1Ideal.Run.result m c,
    (θ_run Cert.Ffn1Ideal.defs _ _).mono (fun _ h => h.1) (Cert.Ffn1Ideal.Run.run_result (F := Ideal) m g),
    (θ_run Cert.RefFfn1Ideal.defs _ _).mono (fun _ h c => ⟨((h c).1.trans (Cert.RefFfn1Ideal.Read.val_main_v25_eq _ _ _ _ _)).trans
      (result_eq m m' c (finite_of_pre hpre c).1 (finite_of_pre hpre c).2 (hargs c).1 (hargs c).2.1 (hargs c).2.2.1
        (hargs c).2.2.2.1 (hargs c).2.2.2.2), (h c).2⟩) (Cert.RefFfn1Ideal.Value.run (F := Ideal) m' g')⟩

end Cert.Ffn1Proof

end
-- ==== Proof.Ffn2Run.lean ====
module

public import proofs.«01_k».proof.Proof.Gen.Ffn2Ideal.Frame
public import proofs.«01_k».proof.Proof.Gen.Ffn2Ideal.Skeleton
public import Idealize.ShloMosaic.Lib.ValueIdxCore
public import Idealize.ShloMosaic.Lib.VecWindow
public import Idealize.ShloMosaic.Lib.Pipeline.Value

@[expose] public section

set_option maxRecDepth 16384

noncomputable section

namespace Cert.Ffn2Ideal.Run

open Cert.Ffn2Ideal Cert.Ffn2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The staging branch runs at the first eleven points. -/
theorem stages_iff (i : grid0.Coords) : k0_cond1 i = 1#1 ↔ (i 0).val < 11 := by
  have h : ∀ i : grid0.Coords, k0_cond1 i = 1#1 ↔ (i 0).val < 11 := by decide +kernel
  exact h i

/-- The tile branch runs from point 11 on. -/
theorem tiles_iff (i : grid0.Coords) : k0_cond2 i = 1#1 ↔ 11 ≤ (i 0).val := by
  have h : ∀ i : grid0.Coords, k0_cond2 i = 1#1 ↔ 11 ≤ (i 0).val := by decide +kernel
  exact h i

/-- Slab `j` of a staged weight: its columns `256 j … 256 j + 255`. -/
def slab (s : Vec F S11x1024x256 .bf16) (j : Fin 11) : Vec F S1x1024x256 .bf16 := fun z => s (ValueIdx.ix3 j (z 1) (z 2))

/-- The hidden activations of a tile, column by column, from its normalised rows and the two staged weights. -/
def acts (h : FVec F S1024x1024 .bf16) (s8 s9 : Vec F S11x1024x256 .bf16) : Vec F S1024x2816 .bf16 := fun y =>
  have hy : (y 1).val < 2816 := (y 1).isLt
  k0_pay9 h (slab s8 ⟨(y 1).val / 256, by omega⟩) (slab s9 ⟨(y 1).val / 256, by omega⟩) (ValueIdx.ix2 (y 0) ⟨(y 1).val % 256, by omega⟩)

/-- What a tile writes, from its rows, the two gains and the staged weights. -/
def tile (x0 : Vec F S1024x1024 .f32) (x1 x5 : Vec F S1x1024 .f32) (s8 s9 : Vec F S11x1024x256 .bf16) (s10 : Vec F S2816x1024 .bf16) :
    Vec F S1024x1024 .f32 :=
  k0_pay4 (k0_pay24 x5) (k0_pay25 x0 (acts (k0_pay5 x0 x1) s8 s9) s10)

/-- The activations of a tile on block `j` of the columns are those of slab `j`. -/
theorem acts_block (h : FVec F S1024x1024 .bf16) (s8 s9 : Vec F S11x1024x256 .bf16) (j : Fin 11) (o : ℕ) (ho : o = 256 * j.val)
    (inb : ∀ a, (![0, o] : Fin 2 → ℕ) a + S1024x256.size a ≤ S1024x2816.size a) (z : S1024x256.Idx) :
    k0_pay9 h (slab s8 j) (slab s9 j) z = acts h s8 s9 ((Rect.unit (s := S1024x2816) ![0, o] S1024x256.size inb).emb z) := by
  have hz : (z 1).val < 256 := (z 1).isLt
  have e0 : (((Rect.unit (s := S1024x2816) ![0, o] S1024x256.size inb).emb z) 0).val = (z 0).val := by
    show 0 + 1 * (z 0).val = _; omega
  have e1 : (((Rect.unit (s := S1024x2816) ![0, o] S1024x256.size inb).emb z) 1).val = o + (z 1).val := by
    show o + 1 * (z 1).val = _; omega
  unfold acts
  have hj : (⟨(((Rect.unit (s := S1024x2816) ![0, o] S1024x256.size inb).emb z) 1).val / 256, by rw [e1]; have := j.isLt; omega⟩ : Fin 11) = j :=
    Fin.ext (by show (((Rect.unit (s := S1024x2816) ![0, o] S1024x256.size inb).emb z) 1).val / 256 = j.val; rw [e1]; omega)
  dsimp only
  rw [hj]
  congr 1
  funext a
  match a with
  | ⟨0, _⟩ => exact Fin.ext e0.symm
  | ⟨1, _⟩ => exact Fin.ext (by show (z 1).val = (((Rect.unit (s := S1024x2816) ![0, o] S1024x256.size inb).emb z) 1).val % 256; rw [e1]; omega)

/-- A load of slab `j` of a staged weight reads that slab. -/
theorem load_slab {arg : Memref sig .tc .vmem S11x1024x256 .bf16} {f : arg.view.ty.Contents (Elt F)} {s : Vec F S11x1024x256 .bf16}
    (hf : arg.view.read (Elt F) f = s) (j : Fin 11) (o : ℕ) (ho : o = j.val)
    (inb : ∀ a, (![o, 0, 0] : Fin 3 → ℕ) a + S1x1024x256.size a ≤ S11x1024x256.size a) :
    View.readAt (Elt F) arg.view (Rect.unit (s := S11x1024x256) ![o, 0, 0] S1x1024x256.size inb).toLoadRect f = slab s j := by
  subst hf; subst ho
  funext z
  refine congrArg (arg.view.read (Elt F) f) (funext fun a => ?_)
  have hz : (z 0).val < 1 := (z 0).isLt
  match a with
  | ⟨0, _⟩ => exact Fin.ext (by show j.val + 1 * (z 0).val = j.val; omega)
  | ⟨1, _⟩ => exact Fin.ext (by show 0 + 1 * (z 1).val = (z 1).val; omega)
  | ⟨2, _⟩ => exact Fin.ext (by show 0 + 1 * (z 2).val = (z 2).val; omega)

/-- A column of the activations buffer lies in the block whose bounds hold it. -/
theorem mem_cols (o : ℕ) (inb : ∀ a, (![0, o] : Fin 2 → ℕ) a + S1024x256.size a ≤ S1024x2816.size a) (y : S1024x2816.Idx)
    (h : o ≤ (y 1).val ∧ (y 1).val < o + 256) : y ∈ (Rect.unit (s := S1024x2816) ![0, o] S1024x256.size inb).set := by
  rw [Rect.mem_set_unit]
  have h0 : (y 0).val < 1024 := (y 0).isLt
  intro a
  match a with
  | ⟨0, _⟩ => exact ⟨Nat.zero_le _, by show (y 0).val < 0 + 1024; omega⟩
  | ⟨1, _⟩ => exact h

/-- A load of the whole of a buffer after stores that cover it, each of its part of one function, reads that function. -/
theorem load_whole (v : View sig .tc .vmem S1024x2816 .bf16) (G : Vec F S1024x2816 .bf16) (L : List (View.Piece (Elt F) S1024x2816 .bf16))
    (inb : ∀ a, (![0, 0] : Fin 2 → ℕ) a + S1024x2816.size a ≤ S1024x2816.size a)
    (hp : ∀ p ∈ L, ∀ x : p.1.shape.Idx, p.2 x = G (p.1.emb x)) (hc : ∀ y : S1024x2816.Idx, ∃ p ∈ L, y ∈ p.1.set) :
    v.readCov L (Rect.unit (s := S1024x2816) ![0, 0] S1024x2816.size inb).toLoadRect = G := by
  funext y
  refine (congrFun (View.readAt_full v _ inb) y).trans ?_
  rw [View.read_writes_eq_canon _ _ _ hc]
  exact View.canon_apply_of_pieces G L hp y (hc y)

set_option maxHeartbeats 4000000 in
/-- At a staging point the body stores the three weight blocks, rounded, in their places of the scratch buffers and keeps the
    rest. -/
theorem run_stage (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S11x1024x256 .bf16) (harg8 : arg8.IsWhole) (arg9 : Memref sig .tc .vmem S11x1024x256 .bf16) (harg9 : arg9.IsWhole) (arg10 : Memref sig .tc .vmem S2816x1024 .bf16) (harg10 : arg10.IsWhole) (arg11 : Memref sig .tc .vmem S1024x2816 .bf16) (harg11 : arg11.IsWhole)
    (x0 : Vec F S1024x1024 .f32) (x1 : Vec F S1x1024 .f32) (x2 x3 : Vec F S1024x256 .f32) (x4 : Vec F S256x1024 .f32) (x5 : Vec F S1x1024 .f32)
    (s8 s9 : Vec F S11x1024x256 .bf16) (s10 : Vec F S2816x1024 .bf16)
    (hi : (i 0).val < 11) (E : Set ℕ) (K : PUnit → sProp 𝕄) :
    iprop((owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare s8 ∗ owns (c : Thread nD τ) arg9 fullShare s9 ∗ owns (c : Thread nD τ) arg10 fullShare s10 ∗ (∃ d, owns (c : Thread nD τ) arg11 fullShare d)) ∗ ((owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare (VecWindow.put s8 (k0_off1 i) S1x1024x256.size (k0_pay1 x2)) ∗ owns (c : Thread nD τ) arg9 fullShare (VecWindow.put s9 (k0_off1 i) S1x1024x256.size (k0_pay2 x3)) ∗ owns (c : Thread nD τ) arg10 fullShare (VecWindow.put s10 (k0_off2 i) S256x1024.size (k0_pay3 x4)) ∗ (∃ d, owns (c : Thread nD τ) arg11 fullShare d)) -∗ K ⟨⟩))
      ⊢ wp frame (wpE (defs₀ (F := F)) Variants.none c none) E (cc0_ffn2 i arg1 harg1 arg2 harg2 arg3 harg3 arg4 harg4 arg5 harg5 arg6 harg6 arg7 harg7 arg8 harg8 arg9 harg9 arg10 harg10 arg11 harg11) K := by
  have hs : k0_cond1 i = 1#1 := (stages_iff i).mpr hi
  have ht : ¬ k0_cond2 i = 1#1 := fun h => absurd ((tiles_iff i).mp h) (by omega)
  simp only [cc0_ffn2_eq_skeleton]; unfold cc0_ffn2_skel
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%d10, %f10, -, H10⟩⟩, Hk⟩
  sl_exec (disch := first | sl_exact ht | sl_exact hs)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _, _; isplitr; swap; · iexact H6
    ipureintro; rfl
  isplitl [H7]
  · iexists _; isplitr; swap; · iexact H7
    ipureintro; rw [View.read_writes_cons_put _ _ _ _ _ rfl, View.writes_nil, hf7, View.readAt_full, hf2]
  isplitl [H8]
  · iexists _; isplitr; swap; · iexact H8
    ipureintro; rw [View.read_writes_cons_put _ _ _ _ _ rfl, View.writes_nil, hf8, View.readAt_full, hf3]
  isplitl [H9]
  · iexists _; isplitr; swap; · iexact H9
    ipureintro; rw [View.read_writes_cons_put _ _ _ _ _ rfl, View.writes_nil, hf9, View.readAt_full, hf4]
  iexists _, _; isplitr; swap; · iexact H10
  ipureintro; rfl

set_option maxHeartbeats 16000000 in
/-- On a tile the body writes the tile's result and keeps the staged weights. -/
theorem run_tile (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S11x1024x256 .bf16) (harg8 : arg8.IsWhole) (arg9 : Memref sig .tc .vmem S11x1024x256 .bf16) (harg9 : arg9.IsWhole) (arg10 : Memref sig .tc .vmem S2816x1024 .bf16) (harg10 : arg10.IsWhole) (arg11 : Memref sig .tc .vmem S1024x2816 .bf16) (harg11 : arg11.IsWhole)
    (x0 : Vec F S1024x1024 .f32) (x1 : Vec F S1x1024 .f32) (x2 x3 : Vec F S1024x256 .f32) (x4 : Vec F S256x1024 .f32) (x5 : Vec F S1x1024 .f32)
    (s8 s9 : Vec F S11x1024x256 .bf16) (s10 : Vec F S2816x1024 .bf16)
    (hi : 11 ≤ (i 0).val) (E : Set ℕ) (K : PUnit → sProp 𝕄) :
    iprop((owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare s8 ∗ owns (c : Thread nD τ) arg9 fullShare s9 ∗ owns (c : Thread nD τ) arg10 fullShare s10 ∗ (∃ d, owns (c : Thread nD τ) arg11 fullShare d)) ∗ ((owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (tile x0 x1 x5 s8 s9 s10) ∗ owns (c : Thread nD τ) arg8 fullShare s8 ∗ owns (c : Thread nD τ) arg9 fullShare s9 ∗ owns (c : Thread nD τ) arg10 fullShare s10 ∗ (∃ d, owns (c : Thread nD τ) arg11 fullShare d)) -∗ K ⟨⟩))
      ⊢ wp frame (wpE (defs₀ (F := F)) Variants.none c none) E (cc0_ffn2 i arg1 harg1 arg2 harg2 arg3 harg3 arg4 harg4 arg5 harg5 arg6 harg6 arg7 harg7 arg8 harg8 arg9 harg9 arg10 harg10 arg11 harg11) K := by
  have hs : ¬ k0_cond1 i = 1#1 := fun h => absurd ((stages_iff i).mp h) (by omega)
  have ht : k0_cond2 i = 1#1 := (tiles_iff i).mpr hi
  simp only [cc0_ffn2_eq_skeleton]; unfold cc0_ffn2_skel
  simp only [k0_part1_eq_skeleton, k0_part2_eq_skeleton, k0_part3_eq_skeleton, k0_part4_eq_skeleton, k0_part5_eq_skeleton, k0_part6_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%d10, %f10, -, H10⟩⟩, Hk⟩
  sl_exec (disch := first | sl_exact ht | sl_exact hs)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; sl_unfold_words
    rw [View.read_writes_full]
    have r0 : View.readAt (Elt F) arg1.view (Rect.unit (s := S1024x1024) ![0, 0] S1024x1024.size inb_S1024x1024_S1024x1024_0_0).toLoadRect f0 = x0 := by
      rw [View.readAt_full, hf0]
    have r1 : View.readAt (Elt F) arg2.view (Rect.unit (s := S1x1024) ![0, 0] S1x1024.size inb_S1x1024_S1x1024_0_0).toLoadRect f1 = x1 := by
      rw [View.readAt_full, hf1]
    have r5 : View.readAt (Elt F) arg6.view (Rect.unit (s := S1x1024) ![0, 0] S1x1024.size inb_S1x1024_S1x1024_0_0).toLoadRect f5 = x5 := by
      rw [View.readAt_full, hf5]
    have r9 : View.readAt (Elt F) arg10.view (Rect.unit (s := S2816x1024) ![0, 0] S2816x1024.size inb_S2816x1024_S2816x1024_0_0).toLoadRect f9 = s10 := by
      rw [View.readAt_full, hf9]
    rw [r0, r1, r5, r9, load_slab hf7 0 0 rfl, load_slab hf8 0 0 rfl, load_slab hf7 1 1 rfl, load_slab hf8 1 1 rfl, load_slab hf7 2 2 rfl, load_slab hf8 2 2 rfl, load_slab hf7 3 3 rfl, load_slab hf8 3 3 rfl, load_slab hf7 4 4 rfl, load_slab hf8 4 4 rfl, load_slab hf7 5 5 rfl, load_slab hf8 5 5 rfl, load_slab hf7 6 6 rfl, load_slab hf8 6 6 rfl, load_slab hf7 7 7 rfl, load_slab hf8 7 7 rfl, load_slab hf7 8 8 rfl, load_slab hf8 8 8 rfl, load_slab hf7 9 9 rfl, load_slab hf8 9 9 rfl, load_slab hf7 10 10 rfl, load_slab hf8 10 10 rfl]
    refine congrArg (fun a => k0_pay4 (k0_pay24 x5) (k0_pay25 x0 a s10)) (load_whole _ (acts (k0_pay5 x0 x1) s8 s9) _ _ ?_ ?_)
    · simp only [List.forall_mem_cons, List.not_mem_nil, false_implies, implies_true, and_true]
      exact ⟨fun z => acts_block (k0_pay5 x0 x1) s8 s9 10 2560 rfl _ z, fun z => acts_block (k0_pay5 x0 x1) s8 s9 9 2304 rfl _ z, fun z => acts_block (k0_pay5 x0 x1) s8 s9 8 2048 rfl _ z, fun z => acts_block (k0_pay5 x0 x1) s8 s9 7 1792 rfl _ z, fun z => acts_block (k0_pay5 x0 x1) s8 s9 6 1536 rfl _ z, fun z => acts_block (k0_pay5 x0 x1) s8 s9 5 1280 rfl _ z, fun z => acts_block (k0_pay5 x0 x1) s8 s9 4 1024 rfl _ z, fun z => acts_block (k0_pay5 x0 x1) s8 s9 3 768 rfl _ z, fun z => acts_block (k0_pay5 x0 x1) s8 s9 2 512 rfl _ z, fun z => acts_block (k0_pay5 x0 x1) s8 s9 1 256 rfl _ z, fun z => acts_block (k0_pay5 x0 x1) s8 s9 0 0 rfl _ z⟩
    · intro y
      have hy : (y 1).val < 2816 := (y 1).isLt
      rcases (by omega : (2560 ≤ (y 1).val ∧ (y 1).val < 2560 + 256) ∨ (2304 ≤ (y 1).val ∧ (y 1).val < 2304 + 256) ∨ (2048 ≤ (y 1).val ∧ (y 1).val < 2048 + 256) ∨ (1792 ≤ (y 1).val ∧ (y 1).val < 1792 + 256) ∨ (1536 ≤ (y 1).val ∧ (y 1).val < 1536 + 256) ∨ (1280 ≤ (y 1).val ∧ (y 1).val < 1280 + 256) ∨ (1024 ≤ (y 1).val ∧ (y 1).val < 1024 + 256) ∨ (768 ≤ (y 1).val ∧ (y 1).val < 768 + 256) ∨ (512 ≤ (y 1).val ∧ (y 1).val < 512 + 256) ∨ (256 ≤ (y 1).val ∧ (y 1).val < 256 + 256) ∨ (0 ≤ (y 1).val ∧ (y 1).val < 0 + 256)) with h | h | h | h | h | h | h | h | h | h | h
      · exact ⟨_, .head _, mem_cols 2560 inb_S1024x2816_S1024x256_0_2560 y h⟩
      · exact ⟨_, .tail _ (.head _), mem_cols 2304 inb_S1024x2816_S1024x256_0_2304 y h⟩
      · exact ⟨_, .tail _ (.tail _ (.head _)), mem_cols 2048 inb_S1024x2816_S1024x256_0_2048 y h⟩
      · exact ⟨_, .tail _ (.tail _ (.tail _ (.head _))), mem_cols 1792 inb_S1024x2816_S1024x256_0_1792 y h⟩
      · exact ⟨_, .tail _ (.tail _ (.tail _ (.tail _ (.head _)))), mem_cols 1536 inb_S1024x2816_S1024x256_0_1536 y h⟩
      · exact ⟨_, .tail _ (.tail _ (.tail _ (.tail _ (.tail _ (.head _))))), mem_cols 1280 inb_S1024x2816_S1024x256_0_1280 y h⟩
      · exact ⟨_, .tail _ (.tail _ (.tail _ (.tail _ (.tail _ (.tail _ (.head _)))))), mem_cols 1024 inb_S1024x2816_S1024x256_0_1024 y h⟩
      · exact ⟨_, .tail _ (.tail _ (.tail _ (.tail _ (.tail _ (.tail _ (.tail _ (.head _))))))), mem_cols 768 inb_S1024x2816_S1024x256_0_768 y h⟩
      · exact ⟨_, .tail _ (.tail _ (.tail _ (.tail _ (.tail _ (.tail _ (.tail _ (.tail _ (.head _)))))))), mem_cols 512 inb_S1024x2816_S1024x256_0_512 y h⟩
      · exact ⟨_, .tail _ (.tail _ (.tail _ (.tail _ (.tail _ (.tail _ (.tail _ (.tail _ (.tail _ (.head _))))))))), mem_cols 256 inb_S1024x2816_S1024x256_0_256 y h⟩
      · exact ⟨_, .tail _ (.tail _ (.tail _ (.tail _ (.tail _ (.tail _ (.tail _ (.tail _ (.tail _ (.tail _ (.head _)))))))))), mem_cols 0 inb_S1024x2816_S1024x256_0_0 y h⟩

  isplitl [H7]
  · iexists _; isplitr; swap; · iexact H7
    ipureintro; exact hf7
  isplitl [H8]
  · iexists _; isplitr; swap; · iexact H8
    ipureintro; exact hf8
  isplitl [H9]
  · iexists _; isplitr; swap; · iexact H9
    ipureintro; exact hf9
  iexists _, _; isplitr; swap; · iexact H10
  ipureintro; rfl

end Cert.Ffn2Ideal.Run

end
-- ==== Proof.Ffn2Frame.lean ====
module

public import proofs.«01_k».proof.Proof.Ffn2Run
public import Idealize.ShloMosaic.Lib.Claim
public import Idealize.ShloMosaic.Lib.VecWindow
public import Idealize.ShloMosaic.Lib.ValueIdxCore
public import Idealize.ShloMosaic.Lib.Pipeline.FrameBody
public import Idealize.ShloMosaic.Lib.Pipeline.DatRel
public import Idealize.ShloMosaic.Lib.Pipeline.ArrRel
public import Idealize.ShloMosaic.Lib.Pipeline.Value

@[expose] public section

set_option maxRecDepth 16384

noncomputable section

namespace Cert.Ffn2Ideal.Run

open Cert.Ffn2Ideal Cert.Ffn2Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid point of a number. -/
def pt (n : ℕ) : Fin cfg0.N := ⟨n % 27, lt_of_lt_of_eq (Nat.mod_lt _ (by decide)) N_0.symm⟩

/-- The point of a point's own number is that point. -/
theorem pt_val (t : Fin cfg0.N) : pt t.val = t :=
  Fin.ext (Nat.mod_eq_of_lt (lt_of_lt_of_eq t.isLt N_0))

/-- The gate weights as the staging points lay them out: slab `i` is the cast block of point `i`. -/
def WG (c : Dev nD) : Vec F S11x1024x256 .bf16 :=
  fun y => (k0_pay1 (iblk m c 2 (pt (y 0).val)) : Vec F S1x1024x256 .bf16) (ix3 (0 : Fin 1) (y 1) (y 2))

/-- The up weights as the staging points lay them out. -/
def WU (c : Dev nD) : Vec F S11x1024x256 .bf16 :=
  fun y => (k0_pay2 (iblk m c 3 (pt (y 0).val)) : Vec F S1x1024x256 .bf16) (ix3 (0 : Fin 1) (y 1) (y 2))

/-- The down weights as the staging points lay them out: rows `256 i` to `256 i + 255` are the cast block of point `i`. -/
def WD (c : Dev nD) : Vec F S2816x1024 .bf16 :=
  fun y => (k0_pay3 (iblk m c 4 (pt ((y 0).val / 256))) : Vec F S256x1024 .bf16) (ix2 (⟨(y 0).val % 256, Nat.mod_lt _ (by decide)⟩ : Fin 256) (y 1))

/-- What the scratch weights hold once the points below `n` have run: their slabs and their rows. -/
def Staged (c : Dev nD) (n : ℕ) (s8 s9 : Vec F S11x1024x256 .bf16) (s10 : Vec F S2816x1024 .bf16) : Prop :=
  (∀ y : S11x1024x256.Idx, (y 0).val < n → s8 y = WG m c y) ∧ (∀ y : S11x1024x256.Idx, (y 0).val < n → s9 y = WU m c y)
    ∧ (∀ y : S2816x1024.Idx, (y 0).val < 256 * n → s10 y = WD m c y)

/-- Past the staging points the scratch weights are all in place. -/
theorem Staged.all {m : (ℓ : Loc nD τ sig) → Buf (Elt F) ℓ} {c : Dev nD} {n : ℕ} {s8 s9 : Vec F S11x1024x256 .bf16} {s10 : Vec F S2816x1024 .bf16} (h : Staged m c n s8 s9 s10)
    (hn : 11 ≤ n) : s8 = WG m c ∧ s9 = WU m c ∧ s10 = WD m c :=
  ⟨funext fun y => h.1 y (lt_of_lt_of_le (y 0).isLt hn), funext fun y => h.2.1 y (lt_of_lt_of_le (y 0).isLt hn),
    funext fun y => h.2.2 y (lt_of_lt_of_le (y 0).isLt (by show 2816 ≤ 256 * n; omega))⟩

/-- Once in place, they are in place at every later point. -/
theorem Staged.whole (c : Dev nD) (n : ℕ) : Staged m c n (WG m c) (WU m c) (WD m c) :=
  ⟨fun _ _ => rfl, fun _ _ => rfl, fun _ _ => rfl⟩

/-- A point's own coordinate is its number. -/
theorem coord_val : ∀ t : Fin grid0.N, ((grid0.coords t) 0).val = t.val := by decide +kernel

/-- Where a staging point stores its slab. -/
theorem slab_off : ∀ t : Fin grid0.N, t.val < 11 → k0_off1 (grid0.coords t) 0 = t.val ∧ k0_off1 (grid0.coords t) 1 = 0
    ∧ k0_off1 (grid0.coords t) 2 = 0 := by decide +kernel

/-- Where a staging point stores its rows. -/
theorem rows_off : ∀ t : Fin grid0.N, t.val < 11 → k0_off2 (grid0.coords t) 0 = 256 * t.val ∧ k0_off2 (grid0.coords t) 1 = 0 := by decide +kernel

/-- A slab store, read at any index: the stored slab at its own number, elsewhere what was there. -/
theorem put_slab {e : EltTy} (t : Fin grid0.N) (ht : t.val < 11) (s : Vec F S11x1024x256 e) (w : Vec F S1x1024x256 e) (y : S11x1024x256.Idx) :
    VecWindow.put s (k0_off1 (grid0.coords t)) S1x1024x256.size w y
      = if (y 0).val = t.val then w (ix3 (0 : Fin 1) (y 1) (y 2)) else s y := by
  obtain ⟨o0, o1, o2⟩ := slab_off t ht
  have h1 : (y 1).val < 1024 := (y 1).isLt
  have h2 : (y 2).val < 256 := (y 2).isLt
  unfold VecWindow.put
  by_cases h : (y 0).val = t.val
  · have hb : ∀ a, k0_off1 (grid0.coords t) a ≤ (y a).val ∧ (y a).val < k0_off1 (grid0.coords t) a + S1x1024x256.size a := fun a => by
      match a with
      | ⟨0, _⟩ => exact ⟨by rw [show k0_off1 (grid0.coords t) ⟨0, _⟩ = t.val from o0]; exact h.ge, by rw [show k0_off1 (grid0.coords t) ⟨0, _⟩ = t.val from o0]; show (y 0).val < t.val + 1; omega⟩
      | ⟨1, _⟩ => exact ⟨by rw [show k0_off1 (grid0.coords t) ⟨1, _⟩ = 0 from o1]; omega, by rw [show k0_off1 (grid0.coords t) ⟨1, _⟩ = 0 from o1]; show (y 1).val < 0 + 1024; omega⟩
      | ⟨2, _⟩ => exact ⟨by rw [show k0_off1 (grid0.coords t) ⟨2, _⟩ = 0 from o2]; omega, by rw [show k0_off1 (grid0.coords t) ⟨2, _⟩ = 0 from o2]; show (y 2).val < 0 + 256; omega⟩
    rw [dif_pos hb, if_pos h]
    refine congrArg w (funext fun a => Fin.ext ?_)
    match a with
    | ⟨0, _⟩ => show (y 0).val - k0_off1 (grid0.coords t) 0 = 0; rw [o0]; omega
    | ⟨1, _⟩ => show (y 1).val - k0_off1 (grid0.coords t) 1 = (y 1).val; rw [o1]; omega
    | ⟨2, _⟩ => show (y 2).val - k0_off1 (grid0.coords t) 2 = (y 2).val; rw [o2]; omega
  · rw [if_neg h, dif_neg]
    intro hb
    have h0 := hb 0
    rw [o0] at h0
    have h0' : (y 0).val < t.val + 1 := h0.2
    exact h (by have := h0.1; omega)

/-- A store of rows, read at any index: the stored rows at their own number, elsewhere what was there. -/
theorem put_rows {e : EltTy} (t : Fin grid0.N) (ht : t.val < 11) (s : Vec F S2816x1024 e) (w : Vec F S256x1024 e) (y : S2816x1024.Idx) :
    VecWindow.put s (k0_off2 (grid0.coords t)) S256x1024.size w y
      = if (y 0).val / 256 = t.val then w (ix2 (⟨(y 0).val % 256, Nat.mod_lt _ (by decide)⟩ : Fin 256) (y 1)) else s y := by
  obtain ⟨o0, o1⟩ := rows_off t ht
  have h1 : (y 1).val < 1024 := (y 1).isLt
  unfold VecWindow.put
  by_cases h : (y 0).val / 256 = t.val
  · have hb : ∀ a, k0_off2 (grid0.coords t) a ≤ (y a).val ∧ (y a).val < k0_off2 (grid0.coords t) a + S256x1024.size a := fun a => by
      match a with
      | ⟨0, _⟩ => exact ⟨by rw [show k0_off2 (grid0.coords t) ⟨0, _⟩ = 256 * t.val from o0]; show 256 * t.val ≤ (y 0).val; omega, by rw [show k0_off2 (grid0.coords t) ⟨0, _⟩ = 256 * t.val from o0]; show (y 0).val < 256 * t.val + 256; omega⟩
      | ⟨1, _⟩ => exact ⟨by rw [show k0_off2 (grid0.coords t) ⟨1, _⟩ = 0 from o1]; omega, by rw [show k0_off2 (grid0.coords t) ⟨1, _⟩ = 0 from o1]; show (y 1).val < 0 + 1024; omega⟩
    rw [dif_pos hb, if_pos h]
    refine congrArg w (funext fun a => Fin.ext ?_)
    match a with
    | ⟨0, _⟩ => show (y 0).val - k0_off2 (grid0.coords t) 0 = (y 0).val % 256; rw [o0]; omega
    | ⟨1, _⟩ => show (y 1).val - k0_off2 (grid0.coords t) 1 = (y 1).val; rw [o1]; omega
  · rw [if_neg h, dif_neg]
    intro hb
    have h0 := hb 0
    rw [o0] at h0
    have h0' : (y 0).val < 256 * t.val + 256 := h0.2
    exact h (by have := h0.1; omega)

/-- A staging point adds its own slabs and rows to those in place. -/
theorem Staged.step (c : Dev nD) (t : Fin cfg0.N) (ht : t.val < 11) (s8 s9 : Vec F S11x1024x256 .bf16) (s10 : Vec F S2816x1024 .bf16)
    (h : Staged m c t.val s8 s9 s10) : Staged m c (t.val + 1)
      (VecWindow.put s8 (k0_off1 (grid0.coords t)) S1x1024x256.size (k0_pay1 (iblk m c 2 t)))
      (VecWindow.put s9 (k0_off1 (grid0.coords t)) S1x1024x256.size (k0_pay2 (iblk m c 3 t)))
      (VecWindow.put s10 (k0_off2 (grid0.coords t)) S256x1024.size (k0_pay3 (iblk m c 4 t))) := by
  refine ⟨fun y hy => ?_, fun y hy => ?_, fun y hy => ?_⟩
  · refine (put_slab t ht _ _ y).trans ?_
    by_cases e : (y 0).val = t.val
    · rw [if_pos e]; unfold WG; rw [e, pt_val]
    · rw [if_neg e]; exact h.1 y (by omega)
  · refine (put_slab t ht _ _ y).trans ?_
    by_cases e : (y 0).val = t.val
    · rw [if_pos e]; unfold WU; rw [e, pt_val]
    · rw [if_neg e]; exact h.2.1 y (by omega)
  · refine (put_rows t ht _ _ y).trans ?_
    by_cases e : (y 0).val / 256 = t.val
    · rw [if_pos e]; unfold WD; rw [e, pt_val]
    · rw [if_neg e]; exact h.2.2 y (by omega)

/-- What is carried from point to point: the scratch weights staged so far, and the rest of the scratch at any contents. -/
def carried (c : Dev nD) (n : ℕ) : sProp 𝕄 :=
  iprop(∃ s8 s9 s10, ⌜Staged m c n s8 s9 s10⌝ ∗ owns (c : Thread nD τ) (Memref.whole cc0_scratch0) fullShare s8 ∗ owns (c : Thread nD τ) (Memref.whole cc0_scratch1) fullShare s9 ∗ owns (c : Thread nD τ) (Memref.whole cc0_scratch2) fullShare s10
    ∗ (∃ d, owns (c : Thread nD τ) (Memref.whole cc0_scratch3) fullShare d) ∗ (∃ r, prngReg c r))

/-- The output window is the one held to a statement of its own. -/
def isOutput : Fin 7 → Bool := fun w => w.val == 6

/-- The tile of a point: of its input rows, over the staged weights. -/
def tileOf (c : Dev nD) (t : Fin cfg0.N) : Vec F S1024x1024 .f32 := tile (iblk m c 0 t) (iblk m c 1 t) (iblk m c 5 t) (WG m c) (WU m c) (WD m c)

/-- What a tile point leaves in the output's buffer: its tile's result. -/
def left (c : Dev nD) (w : Fin cfg0.W) (t : Fin cfg0.N) : ((cfg0.win w).block.Idx → Elt F (cfg0.win w).elt) → Prop :=
  match w with
  | ⟨0, _⟩ => fun _ => True
  | ⟨1, _⟩ => fun _ => True
  | ⟨2, _⟩ => fun _ => True
  | ⟨3, _⟩ => fun _ => True
  | ⟨4, _⟩ => fun _ => True
  | ⟨5, _⟩ => fun _ => True
  | ⟨6, _⟩ => fun X => 11 ≤ t.val → X = tileOf m c t

/-- The run's proof data on one core: the arrays as the launch finds them, each input's buffer at its block after every point. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ n := carried m c n.val
  q _ := fullShare
  owed _ := 0

/-- The same data, the output window held to `left`. -/
def rdat (c : Dev nD) : RDat τ (Elt F) Unit ℕ (UR sig nD τ) ℕ cfg0 c := (dat m c).toRRel isOutput (left m c)

/-- The arrays of the proof data are the ones the launch finds. -/
theorem dat_A (c : Dev nD) (w : Fin cfg0.W) : (dat m c).A w = V m c (Pipeline.arrRef spec0 w) := by
  dsimp only [dat]

/-- The scratch, buffer by buffer. -/
theorem scratch_eq (c : Dev nD) :
    (Pipeline.ΦA spec0 c : sProp 𝕄) = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA; rw [scopedRest0_eq]; simp only [owns_whole]; try rfl

/-- Before every point each input's buffer holds its block. -/
theorem dat_before (c : Dev nD) (t : Fin cfg0.N) :
    (∀ d, (dat m c).before 0 t d = iblk m c 0 t)
      ∧ (∀ d, (dat m c).before 1 t d = iblk m c 1 t)
      ∧ (∀ d, (dat m c).before 2 t d = iblk m c 2 t)
      ∧ (∀ d, (dat m c).before 3 t d = iblk m c 3 t)
      ∧ (∀ d, (dat m c).before 4 t d = iblk m c 4 t)
      ∧ (∀ d, (dat m c).before 5 t d = iblk m c 5 t) :=
  ⟨before0_0_of m (dat m c) (dat_A m c 0) (fun t => by dsimp only [dat]) t,
    before0_1_of m (dat m c) (dat_A m c 1) (fun t => by dsimp only [dat]) t,
    before0_2_of m (dat m c) (dat_A m c 2) (fun t => by dsimp only [dat]) t,
    before0_3_of m (dat m c) (dat_A m c 3) (fun t => by dsimp only [dat]) t,
    before0_4_of m (dat m c) (dat_A m c 4) (fun t => by dsimp only [dat]) t,
    before0_5_of m (dat m c) (dat_A m c 5) (fun t => by dsimp only [dat]) t⟩

set_option maxHeartbeats 4000000 in
/-- The body at any point, from the buffers as the pipeline hands them to the buffers as it takes them back. -/
theorem sound_body (c : Dev nD) (t : Fin cfg0.N) :
    iprop((dat m c).Φ t.castSucc ∗ (dat m c).owesAt () t.castSucc
      ∗ (∃ d, owns (c : Thread nD τ) (st0_0 t) fullShare ((dat m c).before 0 t d))
      ∗ (∃ d, owns (c : Thread nD τ) (st0_1 t) fullShare ((dat m c).before 1 t d))
      ∗ (∃ d, owns (c : Thread nD τ) (st0_2 t) fullShare ((dat m c).before 2 t d))
      ∗ (∃ d, owns (c : Thread nD τ) (st0_3 t) fullShare ((dat m c).before 3 t d))
      ∗ (∃ d, owns (c : Thread nD τ) (st0_4 t) fullShare ((dat m c).before 4 t d))
      ∗ (∃ d, owns (c : Thread nD τ) (st0_5 t) fullShare ((dat m c).before 5 t d))
      ∗ (∃ Y, ⌜(rdat m c).Finds 6 t Y⌝ ∗ owns (c : Thread nD τ) (st0_6 t) fullShare Y))
    ⊢ wp frame (wpE (defs₀ (F := F)) Variants.none c none) Set.univ (bodyAt0 t) (fun _ =>
      iprop((dat m c).Φ t.succ ∗ (dat m c).owesAt () t.succ
      ∗ owns (c : Thread nD τ) (st0_0 t) fullShare (iblk m c 0 t)
      ∗ owns (c : Thread nD τ) (st0_1 t) fullShare (iblk m c 1 t)
      ∗ owns (c : Thread nD τ) (st0_2 t) fullShare (iblk m c 2 t)
      ∗ owns (c : Thread nD τ) (st0_3 t) fullShare (iblk m c 3 t)
      ∗ owns (c : Thread nD τ) (st0_4 t) fullShare (iblk m c 4 t)
      ∗ owns (c : Thread nD τ) (st0_5 t) fullShare (iblk m c 5 t)
      ∗ (∃ X, ⌜left m c 6 t X⌝ ∗ owns (c : Thread nD τ) (st0_6 t) fullShare X))) := by
  obtain ⟨b0, b1, b2, b3, b4, b5⟩ := dat_before m c t
  simp only [b0, b1, b2, b3, b4, b5]
  rw [show (dat m c).owesAt () t.succ = (dat m c).owesAt () t.castSucc from rfl,
    show (dat m c).Φ t.castSucc = carried m c t.val from rfl, show (dat m c).Φ t.succ = carried m c (t.val + 1) from rfl]
  unfold carried
  have hc : ((grid0.coords t) 0).val = t.val := coord_val t
  iintro ⟨⟨%s8, %s9, %s10, %hs, S0, S1, S2, S3, G⟩, O, ⟨%d0, H0⟩, ⟨%d1, H1⟩, ⟨%d2, H2⟩, ⟨%d3, H3⟩, ⟨%d4, H4⟩, ⟨%d5, H5⟩, ⟨%Y, -, H6⟩⟩
  by_cases h : 11 ≤ t.val
  · obtain ⟨rfl, rfl, rfl⟩ := hs.all h
    iapply (run_tile c (grid0.coords t) _ _ _ _ _ _ _ _ _ _ _ _ _ _ _ _ _ _ _ _ _ _ (iblk m c 0 t) (iblk m c 1 t) (iblk m c 2 t) (iblk m c 3 t) (iblk m c 4 t) (iblk m c 5 t) (WG m c) (WU m c) (WD m c) (by omega) Set.univ _)
    isplitl [H0 H1 H2 H3 H4 H5 H6 S0 S1 S2 S3]
    · isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [S0]; · iexact S0
      isplitl [S1]; · iexact S1
      isplitl [S2]; · iexact S2
      iexact S3
    iintro ⟨H0, H1, H2, H3, H4, H5, H6, S0, S1, S2, S3⟩
    isplitl [S0 S1 S2 S3 G]
    · iexists _, _, _; isplitr; swap
      · isplitl [S0]; · iexact S0
        isplitl [S1]; · iexact S1
        isplitl [S2]; · iexact S2
        isplitl [S3]; · iexact S3
        iexact G
      · ipureintro; exact Staged.whole m c _
    isplitl [O]; · iexact O
    isplitl [H0]; · iexact H0
    isplitl [H1]; · iexact H1
    isplitl [H2]; · iexact H2
    isplitl [H3]; · iexact H3
    isplitl [H4]; · iexact H4
    isplitl [H5]; · iexact H5
    iexists _; isplitr; swap; · iexact H6
    ipureintro; exact fun _ => rfl
  · iapply (run_stage c (grid0.coords t) _ _ _ _ _ _ _ _ _ _ _ _ _ _ _ _ _ _ _ _ _ _ (iblk m c 0 t) (iblk m c 1 t) (iblk m c 2 t) (iblk m c 3 t) (iblk m c 4 t) (iblk m c 5 t) s8 s9 s10 (by omega) Set.univ _)
    isplitl [H0 H1 H2 H3 H4 H5 H6 S0 S1 S2 S3]
    · isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [S0]; · iexact S0
      isplitl [S1]; · iexact S1
      isplitl [S2]; · iexact S2
      iexact S3
    iintro ⟨H0, H1, H2, H3, H4, H5, ⟨%X, H6⟩, S0, S1, S2, S3⟩
    isplitl [S0 S1 S2 S3 G]
    · iexists _, _, _; isplitr; swap
      · isplitl [S0]; · iexact S0
        isplitl [S1]; · iexact S1
        isplitl [S2]; · iexact S2
        isplitl [S3]; · iexact S3
        iexact G
      · ipureintro; exact Staged.step m c t (by omega) s8 s9 s10 hs
    isplitl [O]; · iexact O
    isplitl [H0]; · iexact H0
    isplitl [H1]; · iexact H1
    isplitl [H2]; · iexact H2
    isplitl [H3]; · iexact H3
    isplitl [H4]; · iexact H4
    isplitl [H5]; · iexact H5
    iexists _; isplitr; swap; · iexact H6
    ipureintro; exact fun h' => absurd h' h

/-- The library's body obligation, the output window held to `left`. -/
theorem obligation (c : Dev nD) : BodyObligationRel (dat (F := F) m c) (defs₀ (F := F)) Variants.none () Set.univ isOutput (left m c) := fun t => by
  rw [bigSep_W0, bigSep_W0, show defs₀ (F := F) .tc cfg0.body (cfg0.bodyArgs t (cfg0.slots t)) = bodyAt0 t from by
    unfold defs₀; rw [Defs.onTc_tc]]
  exact triple_restated (sound_body m c t) rfl .rfl fun _ => .rfl

/-- The scratch as the launch hands it over is what the first point carries. -/
theorem carried_start (c : Dev nD) : (Pipeline.ΦA spec0 c : sProp 𝕄) ⊢ carried m c 0 := by
  rw [scratch_eq]; unfold carried
  iintro ⟨⟨⟨%s8, S0⟩, ⟨%s9, S1⟩, ⟨%s10, S2⟩, S3⟩, G⟩
  iexists s8, s9, s10
  isplitr
  · ipureintro; exact ⟨fun _ h => absurd h (Nat.not_lt_zero _), fun _ h => absurd h (Nat.not_lt_zero _), fun _ h => absurd h (Nat.not_lt_zero _)⟩
  isplitl [S0]; · iexact S0
  isplitl [S1]; · iexact S1
  isplitl [S2]; · iexact S2
  isplitl [S3]; · iexact S3
  iexact G

/-- What is carried, forgotten, is the scratch at any contents. -/
theorem carried_end (c : Dev nD) (n : ℕ) : carried m c n ⊢ (Pipeline.ΦA spec0 c : sProp 𝕄) := by
  rw [scratch_eq]; unfold carried
  iintro ⟨%s8, %s9, %s10, -, S0, S1, S2, S3, G⟩
  isplitl [S0 S1 S2 S3]
  · isplitl [S0]; · iexists s8; iexact S0
    isplitl [S1]; · iexists s9; iexact S1
    isplitl [S2]; · iexists s10; iexact S2
    iexact S3
  iexact G

set_option backward.isDefEq.respectTransparency.types false in
/-- The launch: every execution ends, the windows' arrays as the proof data say, every buffer outside the call as it was at its
    start, and every semaphore counter at zero. -/
theorem run_main : θ_run defs (onTc (τ := τ) (main (F := F))) (s₀ m ρ) (fun r =>
    RDat.FramePost (cfgs 0) (rdat m) (V m) r ∧ r.2.sem = fun _ => 0) :=
  RDat.θ_run_frame_track (Q' := _) cfgs (0 : Fin 1) launch0 defs₀ Variants.none (rdat m) m ρ main
    (fun c => (obligation m c).toRRel) (fun c w => by fin_cases w <;> rfl) (fun _ _ => rfl) (V m) (hmain m Variants.none)
    (fun c w => dat_A m c w) (fun c => carried_start m c) (fun c => carried_end m c _)

/-- Every execution from any memory ends with the argument arrays unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
    have rest := (h.1 c).2
    ⟨(RDat.FramePost.arr_in h.1 c 0 rfl).trans ((dat_A m c 0).trans (V_main_arg0 m c)),
      (rest main_arg1 (Pipeline.mem_restRefs_of main_arg1 (by decide) (by decide))).trans (V_main_arg1 m c),
      (rest main_arg2 (Pipeline.mem_restRefs_of main_arg2 (by decide) (by decide))).trans (V_main_arg2 m c),
      (rest main_arg3 (Pipeline.mem_restRefs_of main_arg3 (by decide) (by decide))).trans (V_main_arg3 m c),
      (rest main_arg4 (Pipeline.mem_restRefs_of main_arg4 (by decide) (by decide))).trans (V_main_arg4 m c),
      (rest main_arg5 (Pipeline.mem_restRefs_of main_arg5 (by decide) (by decide))).trans (V_main_arg5 m c)⟩, h.2⟩) (run_main m ρ)

/-- The result array: row by row, the tile of the row's point. -/
def result (c : Dev nD) : Vec F S16384x1024 .f32 := fun y =>
  tileOf m c (pt (11 + (y 0).val / 1024))
    (ix2 (⟨(y 0).val % 1024, Nat.mod_lt _ (by decide)⟩ : Fin 1024) (y 1))

/-- Only tile points write back. -/
theorem flush_tile : ∀ t : Fin cfg0.N, (cfg0.win 6).flush t = true → 11 ≤ t.val := by decide +kernel

/-- Every tile point writes back. -/
theorem tile_flush : ∀ t : Fin cfg0.N, 11 ≤ t.val → (cfg0.win 6).flush t = true := by decide +kernel

/-- The output's block at a tile point. -/
theorem out_index : ∀ t : Fin cfg0.N, 11 ≤ t.val → (cfg0.win 6).index t 0 = t.val - 11 ∧ (cfg0.win 6).index t 1 = 0 := by decide +kernel

/-- Where an element of the output's block sits in the array. -/
theorem out_emb (t : Fin cfg0.N) (ht : 11 ≤ t.val) (x : S1024x1024.Idx) :
    ((cfg0.win 6).blk t).view.emb x = (ix2 (⟨(t.val - 11) * 1024 + (x 0).val, by
      have := lt_of_lt_of_eq t.isLt N_0; have h0 : (x 0).val < 1024 := (x 0).isLt; omega⟩ : Fin 16384) (x 1) : S16384x1024.Idx) := by
  obtain ⟨i0, i1⟩ := out_index t ht
  refine funext fun a => Fin.ext ?_
  match a with
  | ⟨0, _⟩ => exact (Pipeline.Window.rect_emb_val (cfg0.win 6) t x 0).trans (by rw [i0]; rfl)
  | ⟨1, _⟩ => exact (Pipeline.Window.rect_emb_val (cfg0.win 6) t x 1).trans (by rw [i1, Nat.zero_mul, Nat.zero_add])

/-- The result's rows under a tile point's block are that point's tile. -/
theorem result_emb (c : Dev nD) (t : Fin cfg0.N) (ht : 11 ≤ t.val) (x : S1024x1024.Idx) :
    result m c (((cfg0.win 6).blk t).view.emb x) = tileOf m c t x := by
  have h0 : (x 0).val < 1024 := (x 0).isLt
  rw [out_emb t ht x]
  have e1 : 11 + ((t.val - 11) * 1024 + (x 0).val) / 1024 = t.val := by omega
  have e2 : ((t.val - 11) * 1024 + (x 0).val) % 1024 = (x 0).val := by omega
  have p1 : pt (11 + ((t.val - 11) * 1024 + (x 0).val) / 1024) = t := (congrArg pt e1).trans (pt_val t)
  have p2 : (ix2 (⟨((t.val - 11) * 1024 + (x 0).val) % 1024, Nat.mod_lt _ (by decide)⟩ : Fin 1024) (x 1) : S1024x1024.Idx) = x :=
    funext fun a => Fin.ext (match a with | ⟨0, _⟩ => e2 | ⟨1, _⟩ => rfl)
  exact congr (congrArg (tileOf m c) p1) p2

/-- Every execution from any memory leaves the result array in the result's buffer, whatever core one looks at. -/
theorem run_result : θ_run defs (onTc (τ := τ) (main (F := F))) ⟨m, fun _ => 0, ρ⟩ (fun r => (∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun r h => ⟨fun c => by
    have rest := (h.1 c).2
    refine ⟨?_, (RDat.FramePost.arr_in h.1 c 0 rfl).trans ((dat_A m c 0).trans (V_main_arg0 m c)),
      (rest main_arg1 (Pipeline.mem_restRefs_of main_arg1 (by decide) (by decide))).trans (V_main_arg1 m c),
      (rest main_arg2 (Pipeline.mem_restRefs_of main_arg2 (by decide) (by decide))).trans (V_main_arg2 m c),
      (rest main_arg3 (Pipeline.mem_restRefs_of main_arg3 (by decide) (by decide))).trans (V_main_arg3 m c),
      (rest main_arg4 (Pipeline.mem_restRefs_of main_arg4 (by decide) (by decide))).trans (V_main_arg4 m c),
      (rest main_arg5 (Pipeline.mem_restRefs_of main_arg5 (by decide) (by decide))).trans (V_main_arg5 m c)⟩
    obtain ⟨after, hL, hA⟩ := RDat.FramePost.exists_exact h.1 c
    have hcov : ((rdat m c).withAfter after).arrAt 6 cfg0.N = result m c := by
      refine Dat.arrAt_eq_of_cover ((rdat m c).withAfter after) 6 (result m c) (fun t hf => ?_) (fun i => ?_)
      · have ht := flush_tile t hf
        have hX : after 6 t = tileOf m c t :=
          (dat m c).toRRel_leaves (fgt := isOutput) (Rl := left m c) (w := 6) rfl (hL 6 t hf) ht
        funext x
        exact (congrFun hX x).trans (result_emb m c t ht x).symm
      · have hi : (i 0).val < 16384 := (i 0).isLt
        have ht : (pt (11 + (i 0).val / 1024)).val = 11 + (i 0).val / 1024 := Nat.mod_eq_of_lt (by omega)
        refine ⟨pt (11 + (i 0).val / 1024), tile_flush _ (by omega), ?_⟩
        have he := ((cfg0.win 6).blk (pt (11 + (i 0).val / 1024))).view.emb_mem_set (ix2 (⟨(i 0).val % 1024, Nat.mod_lt _ (by decide)⟩ : Fin 1024) (i 1) : S1024x1024.Idx)
        rw [out_emb _ (by omega)] at he
        refine (congrArg (· ∈ _) ?_).mp he
        refine funext fun a => Fin.ext ?_
        match a with
        | ⟨0, _⟩ => show ((pt (11 + (i 0).val / 1024)).val - 11) * 1024 + (i 0).val % 1024 = (i 0).val; rw [ht]; omega
        | ⟨1, _⟩ => rfl
    exact (hA 6).trans hcov, h.2⟩) (run_main m ρ)

end Cert.Ffn2Ideal.Run

end
-- ==== Proof.Ffn2Value.lean ====
/-
  The second feed-forward's result at an element, over the reals: the normed feed-forward row of `FfnMath`, by the tanh gate.
-/
module

public import proofs.«01_k».proof.Proof.Ffn2Frame
public import proofs.«01_k».proof.Proof.FfnMath
public import proofs.«01_k».proof.Proof.FfnShape
public import Idealize.ShloMosaic.Lib.Pointwise

@[expose] public section

noncomputable section

namespace Cert.Ffn2Ideal.Run

open Cert.Ffn2Ideal Cert.Ffn2Ideal.Gen Cert.Ffn Idealize.ShloMosaic Idealize.ShloMosaic.TcCoe Idealize.SL.Sem
open scoped BigOperators

/-- The normed tile at an element is the normed row. -/
theorem norm_apply (x : Vec Ideal S1024x1024 .f32) (g : Vec Ideal S1x1024 .f32) (r k : Fin 1024) :
    k0_pay5 (F := Ideal) x g (ix2 r k) = normed (fun k => x (ix2 r k)) (fun k => g (ix2 0 k)) k := by
  pointwise [k0_pay5]
  rfl

/-- A block of hidden units at an element is the gate of its two projections. -/
theorem unit_apply (h : FVec Ideal S1024x1024 .bf16) (a b : Vec Ideal S1x1024x256 .bf16) (r : Fin 1024) (n : Fin 256) :
    k0_pay9 (F := Ideal) h a b (ix2 r n)
      = gateTanh (∑ k : Fin 1024, h (ix2 r k) * a (ix3 0 k n)) (∑ k : Fin 1024, h (ix2 r k) * b (ix3 0 k n)) := by
  pointwise [k0_pay9]
  rfl

/-- The output tile at an element: the summed row, normed. -/
theorem out_apply (x : Vec Ideal S1024x1024 .f32) (h : Vec Ideal S1024x2816 .bf16) (wd : Vec Ideal S2816x1024 .bf16)
    (g : Vec Ideal S1x1024 .f32) (r j : Fin 1024) :
    k0_pay4 (F := Ideal) (k0_pay24 g) (k0_pay25 x h wd) (ix2 r j)
      = normed (fun j => x (ix2 r j) + half * ∑ n : Fin 2816, h (ix2 r n) * wd (ix2 n j)) (fun k => g (ix2 0 k)) j := by
  pointwise [k0_pay4, k0_pay24, k0_pay25]
  rfl

/-- A cast block of gate weights at an element: over the reals a cast changes nothing. -/
theorem cast1_apply (v : Vec Ideal S1024x256 .f32) (k : Fin 1024) (n : Fin 256) : k0_pay1 (F := Ideal) v (ix3 0 k n) = v (ix2 k n) := by
  pointwise [k0_pay1]

/-- A cast block of up weights at an element. -/
theorem cast2_apply (v : Vec Ideal S1024x256 .f32) (k : Fin 1024) (n : Fin 256) : k0_pay2 (F := Ideal) v (ix3 0 k n) = v (ix2 k n) := by
  pointwise [k0_pay2]

/-- A cast block of down weights at an element. -/
theorem cast3_apply (v : Vec Ideal S256x1024 .f32) (k : Fin 256) (n : Fin 1024) : k0_pay3 (F := Ideal) v (ix2 k n) = v (ix2 k n) := by
  pointwise [k0_pay3]

variable (m : (ℓ : Loc nD τ sig) → Buf (Elt Ideal) ℓ)

/-- The gain as the launch finds it. -/
theorem V_gain (c : Dev nD) :
    (V m c main_v1 : Vec Ideal S1x1024 .f32) = (m ((c.tc : Thread nD τ).loc main_arg1) : Vec Ideal S1x1024 .f32) := by
  have h : (V m c main_v1 : Vec Ideal S1x1024 .f32)
      = shapeCast S1x1024 (shapeCast S1024 (m ((c.tc : Thread nD τ).loc main_arg1) : Vec Ideal S1x1024 .f32) shapeCasts_S1x1024_S1024) shapeCasts_S1024_S1x1024 := by
    unfold V
    simp only [hostOps0]
    after_results_simp <;> rfl
  rw [h, shapeCast_shapeCast]

/-- The final gain as the launch finds it. -/
theorem V_final (c : Dev nD) (k : Fin 1024) :
    (V m c main_v5 : Vec Ideal S1x1024 .f32) (ix2 0 k) = (m ((c.tc : Thread nD τ).loc main_arg5) : Vec Ideal S1024 .f32) (ix1 k) := by
  have h : (V m c main_v5 : Vec Ideal S1x1024 .f32)
      = shapeCast S1x1024 (m ((c.tc : Thread nD τ).loc main_arg5) : Vec Ideal S1024 .f32) shapeCasts_S1024_S1x1024 := by
    unfold V
    simp only [hostOps0]
    after_results_simp <;> rfl
  rw [h]
  exact addUnit_ix2 _ _ k

/-- The gate weights as the launch finds them. -/
theorem V_gate (c : Dev nD) (k : Fin 1024) (n : Fin 2816) :
    (V m c main_v2 : Vec Ideal S1024x2816 .f32) (ix2 k n) = (m ((c.tc : Thread nD τ).loc main_arg2) : Vec Ideal S1x1024x2816 .f32) (ix3 0 k n) := by
  have h : (V m c main_v2 : Vec Ideal S1024x2816 .f32)
      = shapeCast S1024x2816 (m ((c.tc : Thread nD τ).loc main_arg2) : Vec Ideal S1x1024x2816 .f32) shapeCasts_S1x1024x2816_S1024x2816 := by
    unfold V
    simp only [hostOps0]
    after_results_simp <;> rfl
  rw [h]
  exact dropUnit_ix2 _ _ k n

/-- The up weights as the launch finds them. -/
theorem V_up (c : Dev nD) (k : Fin 1024) (n : Fin 2816) :
    (V m c main_v3 : Vec Ideal S1024x2816 .f32) (ix2 k n) = (m ((c.tc : Thread nD τ).loc main_arg3) : Vec Ideal S1x1024x2816 .f32) (ix3 0 k n) := by
  have h : (V m c main_v3 : Vec Ideal S1024x2816 .f32)
      = shapeCast S1024x2816 (m ((c.tc : Thread nD τ).loc main_arg3) : Vec Ideal S1x1024x2816 .f32) shapeCasts_S1x1024x2816_S1024x2816 := by
    unfold V
    simp only [hostOps0]
    after_results_simp <;> rfl
  rw [h]
  exact dropUnit_ix2 _ _ k n

/-- The down weights as the launch finds them. -/
theorem V_down (c : Dev nD) (k : Fin 2816) (n : Fin 1024) :
    (V m c main_v4 : Vec Ideal S2816x1024 .f32) (ix2 k n) = (m ((c.tc : Thread nD τ).loc main_arg4) : Vec Ideal S1x2816x1024 .f32) (ix3 0 k n) := by
  have h : (V m c main_v4 : Vec Ideal S2816x1024 .f32)
      = shapeCast S2816x1024 (m ((c.tc : Thread nD τ).loc main_arg4) : Vec Ideal S1x2816x1024 .f32) shapeCasts_S1x2816x1024_S2816x1024 := by
    unfold V
    simp only [hostOps0]
    after_results_simp <;> rfl
  rw [h]
  exact dropUnit_ix2 _ _ k n

/-- Where the block of the gate weights at a staging point starts. -/
theorem gate_index : ∀ t : Fin cfg0.N, t.val < 11 → (cfg0.win 2).index t 0 = 0 ∧ (cfg0.win 2).index t 1 = t.val := by decide +kernel

/-- The block of the gate weights at a staging point. -/
theorem iblk_gate (c : Dev nD) (t : Fin cfg0.N) (ht : t.val < 11) (k : Fin 1024) (n : Fin 256) :
    (iblk m c 2 t : Vec Ideal S1024x256 .f32) (ix2 k n)
      = (m ((c.tc : Thread nD τ).loc main_arg2) : Vec Ideal S1x1024x2816 .f32) (ix3 0 (k : Fin 1024) (⟨t.val * 256 + n.val, by omega⟩ : Fin 2816)) := by
  obtain ⟨i0, i1⟩ := gate_index t ht
  rw [← V_gate m c]
  show V m c main_v2 (((cfg0.win 2).blk t).view.emb (ix2 k n)) = _
  refine congrArg (V m c main_v2) (funext fun a => Fin.ext ?_)
  match a with
  | ⟨0, _⟩ => exact (Pipeline.Window.rect_emb_val (cfg0.win 2) t _ 0).trans (by rw [i0]; show 0 * 1024 + k.val = k.val; omega)
  | ⟨1, _⟩ => exact (Pipeline.Window.rect_emb_val (cfg0.win 2) t _ 1).trans (by rw [i1]; rfl)

/-- Where the block of the up weights at a staging point starts. -/
theorem up_index : ∀ t : Fin cfg0.N, t.val < 11 → (cfg0.win 3).index t 0 = 0 ∧ (cfg0.win 3).index t 1 = t.val := by decide +kernel

/-- The block of the up weights at a staging point. -/
theorem iblk_up (c : Dev nD) (t : Fin cfg0.N) (ht : t.val < 11) (k : Fin 1024) (n : Fin 256) :
    (iblk m c 3 t : Vec Ideal S1024x256 .f32) (ix2 k n)
      = (m ((c.tc : Thread nD τ).loc main_arg3) : Vec Ideal S1x1024x2816 .f32) (ix3 0 (k : Fin 1024) (⟨t.val * 256 + n.val, by omega⟩ : Fin 2816)) := by
  obtain ⟨i0, i1⟩ := up_index t ht
  rw [← V_up m c]
  show V m c main_v3 (((cfg0.win 3).blk t).view.emb (ix2 k n)) = _
  refine congrArg (V m c main_v3) (funext fun a => Fin.ext ?_)
  match a with
  | ⟨0, _⟩ => exact (Pipeline.Window.rect_emb_val (cfg0.win 3) t _ 0).trans (by rw [i0]; show 0 * 1024 + k.val = k.val; omega)
  | ⟨1, _⟩ => exact (Pipeline.Window.rect_emb_val (cfg0.win 3) t _ 1).trans (by rw [i1]; rfl)

/-- Where the block of the down weights at a staging point starts. -/
theorem down_index : ∀ t : Fin cfg0.N, t.val < 11 → (cfg0.win 4).index t 0 = t.val ∧ (cfg0.win 4).index t 1 = 0 := by decide +kernel

/-- The block of the down weights at a staging point. -/
theorem iblk_down (c : Dev nD) (t : Fin cfg0.N) (ht : t.val < 11) (k : Fin 256) (n : Fin 1024) :
    (iblk m c 4 t : Vec Ideal S256x1024 .f32) (ix2 k n)
      = (m ((c.tc : Thread nD τ).loc main_arg4) : Vec Ideal S1x2816x1024 .f32) (ix3 0 (⟨t.val * 256 + k.val, by omega⟩ : Fin 2816) (n : Fin 1024)) := by
  obtain ⟨i0, i1⟩ := down_index t ht
  rw [← V_down m c]
  show V m c main_v4 (((cfg0.win 4).blk t).view.emb (ix2 k n)) = _
  refine congrArg (V m c main_v4) (funext fun a => Fin.ext ?_)
  match a with
  | ⟨0, _⟩ => exact (Pipeline.Window.rect_emb_val (cfg0.win 4) t _ 0).trans (by rw [i0]; rfl)
  | ⟨1, _⟩ => exact (Pipeline.Window.rect_emb_val (cfg0.win 4) t _ 1).trans (by rw [i1]; show 0 * 1024 + n.val = n.val; omega)

/-- Where the input's block at a tile point starts. -/
theorem tile_index : ∀ t : Fin cfg0.N, 11 ≤ t.val → (cfg0.win 0).index t 0 = t.val - 11 ∧ (cfg0.win 0).index t 1 = 0 := by decide +kernel

/-- The gains' blocks are whole arrays. -/
theorem gain_index : ∀ t : Fin cfg0.N, ((cfg0.win 1).index t 0 = 0 ∧ (cfg0.win 1).index t 1 = 0)
    ∧ ((cfg0.win 5).index t 0 = 0 ∧ (cfg0.win 5).index t 1 = 0) := by decide +kernel

/-- The input's block at the tile point of a row. -/
theorem iblk_tile (c : Dev nD) (q : Fin 16) (r k : Fin 1024) :
    (iblk m c 0 (pt (11 + q.val)) : Vec Ideal S1024x1024 .f32) (ix2 r k)
      = (m ((c.tc : Thread nD τ).loc main_arg0) : Vec Ideal S16384x1024 .f32) (ix2 (⟨q.val * 1024 + r.val, by omega⟩ : Fin 16384) k) := by
  have ht : (pt (11 + q.val)).val = 11 + q.val := Nat.mod_eq_of_lt (by omega)
  obtain ⟨i0, i1⟩ := tile_index (pt (11 + q.val)) (by omega)
  rw [← V_main_arg0 m c]
  show V m c main_arg0 (((cfg0.win 0).blk (pt (11 + q.val))).view.emb (ix2 r k)) = _
  refine congrArg (V m c main_arg0) (funext fun a => Fin.ext ?_)
  match a with
  | ⟨0, _⟩ => exact (Pipeline.Window.rect_emb_val (cfg0.win 0) _ _ 0).trans (by rw [i0, ht, Nat.add_sub_cancel_left]; rfl)
  | ⟨1, _⟩ => exact (Pipeline.Window.rect_emb_val (cfg0.win 0) _ _ 1).trans (by rw [i1]; show 0 * 1024 + k.val = k.val; omega)

/-- The gain's block at any point. -/
theorem iblk_gain (c : Dev nD) (t : Fin cfg0.N) (k : Fin 1024) :
    (iblk m c 1 t : Vec Ideal S1x1024 .f32) (ix2 0 k) = (m ((c.tc : Thread nD τ).loc main_arg1) : Vec Ideal S1x1024 .f32) (ix2 0 k) := by
  obtain ⟨⟨i0, i1⟩, _⟩ := gain_index t
  rw [← V_gain m c]
  show V m c main_v1 (((cfg0.win 1).blk t).view.emb (ix2 0 k)) = _
  refine congrArg (V m c main_v1) (funext fun a => Fin.ext ?_)
  match a with
  | ⟨0, _⟩ => exact (Pipeline.Window.rect_emb_val (cfg0.win 1) t _ 0).trans (by rw [i0]; rfl)
  | ⟨1, _⟩ => exact (Pipeline.Window.rect_emb_val (cfg0.win 1) t _ 1).trans (by rw [i1]; show 0 * 1024 + k.val = k.val; omega)

/-- The final gain's block at any point. -/
theorem iblk_final (c : Dev nD) (t : Fin cfg0.N) (k : Fin 1024) :
    (iblk m c 5 t : Vec Ideal S1x1024 .f32) (ix2 0 k) = (m ((c.tc : Thread nD τ).loc main_arg5) : Vec Ideal S1024 .f32) (ix1 k) := by
  obtain ⟨_, i0, i1⟩ := gain_index t
  rw [← V_final m c]
  show V m c main_v5 (((cfg0.win 5).blk t).view.emb (ix2 0 k)) = _
  refine congrArg (V m c main_v5) (funext fun a => Fin.ext ?_)
  match a with
  | ⟨0, _⟩ => exact (Pipeline.Window.rect_emb_val (cfg0.win 5) t _ 0).trans (by rw [i0]; rfl)
  | ⟨1, _⟩ => exact (Pipeline.Window.rect_emb_val (cfg0.win 5) t _ 1).trans (by rw [i1]; show 0 * 1024 + k.val = k.val; omega)

/-- The staged gate weights at an element. -/
theorem WG_apply (c : Dev nD) (i : Fin 11) (k : Fin 1024) (n : Fin 256) :
    WG m c (ix3 i k n) = (m ((c.tc : Thread nD τ).loc main_arg2) : Vec Ideal S1x1024x2816 .f32) (ix3 0 k (⟨i.val * 256 + n.val, by omega⟩ : Fin 2816)) := by
  have ht : (pt i.val).val = i.val := Nat.mod_eq_of_lt (by omega)
  have h := iblk_gate m c (pt i.val) (by omega) k n
  simp only [ht] at h
  rw [← h]
  exact cast1_apply _ k n

/-- The staged up weights at an element. -/
theorem WU_apply (c : Dev nD) (i : Fin 11) (k : Fin 1024) (n : Fin 256) :
    WU m c (ix3 i k n) = (m ((c.tc : Thread nD τ).loc main_arg3) : Vec Ideal S1x1024x2816 .f32) (ix3 0 k (⟨i.val * 256 + n.val, by omega⟩ : Fin 2816)) := by
  have ht : (pt i.val).val = i.val := Nat.mod_eq_of_lt (by omega)
  have h := iblk_up m c (pt i.val) (by omega) k n
  simp only [ht] at h
  rw [← h]
  exact cast2_apply _ k n

/-- The staged down weights at an element. -/
theorem WD_apply (c : Dev nD) (n : Fin 2816) (j : Fin 1024) :
    WD m c (ix2 n j) = (m ((c.tc : Thread nD τ).loc main_arg4) : Vec Ideal S1x2816x1024 .f32) (ix3 0 n j) := by
  have ht : (pt (n.val / 256)).val = n.val / 256 := Nat.mod_eq_of_lt (by omega)
  have h := iblk_down m c (pt (n.val / 256)) (by omega) (⟨n.val % 256, Nat.mod_lt _ (by decide)⟩ : Fin 256) j
  simp only [ht, Nat.div_add_mod'] at h
  rw [← h]
  exact cast3_apply _ _ j

/-- The hidden units at an element. -/
theorem acts_apply (c : Dev nD) (h : FVec Ideal S1024x1024 .bf16) (r : Fin 1024) (n : Fin 2816) :
    acts h (WG m c) (WU m c) (ix2 r n) = unit gateTanh (fun k => h (ix2 r k))
      (fun k n => (m ((c.tc : Thread nD τ).loc main_arg2) : Vec Ideal S1x1024x2816 .f32) (ix3 0 k n))
      (fun k n => (m ((c.tc : Thread nD τ).loc main_arg3) : Vec Ideal S1x1024x2816 .f32) (ix3 0 k n)) n := by
  have e : n.val / 256 * 256 + n.val % 256 = n.val := Nat.div_add_mod' _ _
  refine (unit_apply h _ _ r (⟨n.val % 256, Nat.mod_lt _ (by decide)⟩ : Fin 256)).trans ?_
  unfold unit
  refine congr (congrArg gateTanh (Finset.sum_congr rfl fun k _ => congrArg (h (ix2 r k) * ·) ?_))
    (Finset.sum_congr rfl fun k _ => congrArg (h (ix2 r k) * ·) ?_)
  · exact (WG_apply m c (⟨n.val / 256, by omega⟩ : Fin 11) k _).trans
      (congrArg (fun z => (m ((c.tc : Thread nD τ).loc main_arg2) : Vec Ideal S1x1024x2816 .f32) (ix3 0 k z)) (Fin.ext e))
  · exact (WU_apply m c (⟨n.val / 256, by omega⟩ : Fin 11) k _).trans
      (congrArg (fun z => (m ((c.tc : Thread nD τ).loc main_arg3) : Vec Ideal S1x1024x2816 .f32) (ix3 0 k z)) (Fin.ext e))

/-- The result at an element: the row's feed-forward, by the gate of the hyperbolic tangent, normed. -/
theorem result_apply (c : Dev nD) (r : Fin 16384) (j : Fin 1024) :
    result m c (ix2 r j) = normed (row gateTanh
        (fun k => (m ((c.tc : Thread nD τ).loc main_arg0) : Vec Ideal S16384x1024 .f32) (ix2 r k))
        (fun k => (m ((c.tc : Thread nD τ).loc main_arg1) : Vec Ideal S1x1024 .f32) (ix2 0 k))
        (fun k n => (m ((c.tc : Thread nD τ).loc main_arg2) : Vec Ideal S1x1024x2816 .f32) (ix3 0 k n))
        (fun k n => (m ((c.tc : Thread nD τ).loc main_arg3) : Vec Ideal S1x1024x2816 .f32) (ix3 0 k n))
        (fun n k => (m ((c.tc : Thread nD τ).loc main_arg4) : Vec Ideal S1x2816x1024 .f32) (ix3 0 n k)))
      (fun k => (m ((c.tc : Thread nD τ).loc main_arg5) : Vec Ideal S1024 .f32) (ix1 k)) j := by
  have e : r.val / 1024 * 1024 + r.val % 1024 = r.val := Nat.div_add_mod' _ _
  have hx : ∀ k : Fin 1024, (iblk m c 0 (pt (11 + r.val / 1024)) : Vec Ideal S1024x1024 .f32) (ix2 (⟨r.val % 1024, Nat.mod_lt _ (by decide)⟩ : Fin 1024) k)
      = (m ((c.tc : Thread nD τ).loc main_arg0) : Vec Ideal S16384x1024 .f32) (ix2 r k) := fun k => by
    refine (iblk_tile m c (⟨r.val / 1024, by omega⟩ : Fin 16) _ k).trans ?_
    simp only [e]
  refine (out_apply _ _ _ _ _ j).trans (congrFun (congr (congrArg normed (funext fun j => ?_)) (funext fun k => iblk_final m c _ k)) j)
  unfold row
  refine congr (congrArg _ (hx j)) (congrArg (half * ·) (Finset.sum_congr rfl fun n _ => congr (congrArg _ ?_) (WD_apply m c n j)))
  refine (acts_apply m c _ _ n).trans (congrArg (fun h => unit gateTanh h _ _ n) (funext fun k => ?_))
  refine (norm_apply _ _ _ k).trans (congrFun (congr (congrArg normed (funext hx)) (funext fun k => iblk_gain m c _ k)) k)

end Cert.Ffn2Ideal.Run

end
-- ==== Proof.Ffn2Ref.lean ====
/-
  The reference of the second feed-forward at an element: the normed feed-forward row of `FfnMath`, by the logistic gate.
-/
module

public import proofs.«01_k».proof.Proof.Gen.RefFfn2Ideal.Run
public import proofs.«01_k».proof.Proof.Gen.RefFfn2Ideal.Read
public import proofs.«01_k».proof.Proof.FfnMath
public import Idealize.ShloMosaic.Lib.Pointwise
public import Idealize.ShloMosaic.Lib.Quiescent

@[expose] public section

noncomputable section

namespace Cert.RefFfn2Ideal.Rows

open Cert.RefFfn2Ideal Cert.RefFfn2Ideal.Gen Cert.RefFfn2Ideal.Read Cert.Ffn
open Idealize.ShloMosaic Idealize.ShloMosaic.TcCoe Idealize.SL.Sem
open scoped BigOperators

/-- The reference's normed array at an element. -/
theorem norm_apply (x : Vec Ideal S16384x1024 .f32) (g : Vec Ideal S1x1024 .f32) (r : Fin 16384) (k : Fin 1024) :
    val_main_v13 (F := Ideal) x g (ix2 r k) = normed (fun k => x (ix2 r k)) (fun k => g (ix2 0 k)) k := by
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13]
  rfl

/-- The reference's hidden units at an element. -/
theorem unit_apply (x : Vec Ideal S16384x1024 .f32) (g : Vec Ideal S1x1024 .f32) (wg wu : Vec Ideal S1x1024x2816 .f32) (r : Fin 16384) (n : Fin 2816) :
    val_main_v20 (F := Ideal) x g wg wu (ix2 r n) = unit gateLogistic (normed (fun k => x (ix2 r k)) (fun k => g (ix2 0 k)))
      (fun k n => wg (ix3 0 k n)) (fun k n => wu (ix3 0 k n)) n := by
  simp only [unit, ← norm_apply x g r]
  generalize hv : val_main_v13 (F := Ideal) x g = v
  pointwise [val_main_v14, val_main_v15, val_main_v16, val_main_v17, val_main_call0_v0, val_main_call0_v1, val_main_call0_cst, val_main_call0_v2, val_main_call0_v3, val_main_call0_cst_0, val_main_call0_v4, val_main_call0_v5, val_main_v18, val_main_v19, val_main_v20, hv]
  unfold gateLogistic
  rw [one_eq]

/-- The reference's summed array at an element. -/
theorem row_apply (x : Vec Ideal S16384x1024 .f32) (g : Vec Ideal S1x1024 .f32) (wg wu : Vec Ideal S1x1024x2816 .f32) (wd : Vec Ideal S1x2816x1024 .f32) (r : Fin 16384) (j : Fin 1024) :
    val_main_v24 (F := Ideal) x g wg wu wd (ix2 r j) = row gateLogistic (fun k => x (ix2 r k)) (fun k => g (ix2 0 k))
      (fun k n => wg (ix3 0 k n)) (fun k n => wu (ix3 0 k n)) (fun n k => wd (ix3 0 n k)) j := by
  simp only [row, ← unit_apply x g wg wu r]
  generalize hv : val_main_v20 (F := Ideal) x g wg wu = v
  pointwise [val_main_v16, val_main_v21, val_main_cst_2, val_main_v22, val_main_v23, val_main_v24, hv]

/-- The reference's result at an element. -/
theorem result_apply (x : Vec Ideal S16384x1024 .f32) (g : Vec Ideal S1x1024 .f32) (wg wu : Vec Ideal S1x1024x2816 .f32) (wd : Vec Ideal S1x2816x1024 .f32) (f : Vec Ideal S1024 .f32) (r : Fin 16384) (j : Fin 1024) :
    val_main_v37 (F := Ideal) x g wg wu wd f (ix2 r j) = normed (row gateLogistic (fun k => x (ix2 r k)) (fun k => g (ix2 0 k))
      (fun k n => wg (ix3 0 k n)) (fun k n => wu (ix3 0 k n)) (fun n k => wd (ix3 0 n k))) (fun k => f (ix1 k)) j := by
  rw [← funext (row_apply x g wg wu wd r)]
  generalize hv : val_main_v24 (F := Ideal) x g wg wu wd = v
  pointwise [val_main_v25, val_main_cst_3, val_main_v26, val_main_v27, val_main_cst_4, val_main_v28, val_main_v29, val_main_cst_5, val_main_v30, val_main_v31, val_main_v32, val_main_v33, val_main_v34, val_main_v35, val_main_v36, val_main_v37, hv]
  rfl

end Cert.RefFfn2Ideal.Rows

end
-- ==== Proof.Ffn2Claim.lean ====
/-
  The claims about the second feed-forward: the frames at the two instances, the reference's frame, and the equality of
  the two results over the reals.
-/
module

public import proofs.«01_k».proof.Defs
public import proofs.«01_k».proof.Proof.Gen.Ffn2
public import proofs.«01_k».proof.Proof.Gen.Pre_ffn2_gate_finite
public import proofs.«01_k».proof.Proof.Ffn2Value
public import proofs.«01_k».proof.Proof.Ffn2Ref

@[expose] public section

noncomputable section

namespace Cert.Ffn2Proof

open Idealize.ShloMosaic Idealize.ShloMosaic.TcCoe Idealize.SL.Sem Cert.Ffn

set_option smartUnfolding false in
set_option maxHeartbeats 4000000 in
/-- The frame over the machine's own words. -/
theorem frame_bits : Cert.quiescent_Ffn2 (hFfn2 := Cert.Ffn2.Gen.facts) :=
  fun m g _ => (θ_run Cert.Ffn2Ideal.defs _ _).mono (fun _ h => h) (Cert.Ffn2Ideal.Run.frame (F := Bits) m g)

/-- The frame over the reals. -/
theorem frame_ideal : Cert.quiescent_Ffn2Ideal (hFfn2Ideal := Cert.Ffn2Ideal.Gen.facts) :=
  fun m g _ => Cert.Ffn2Ideal.Run.frame (F := Ideal) m g

/-- The reference's frame: it declares no semaphore, so none is left signalled. -/
theorem frame_ref : Cert.quiescent_RefFfn2Ideal (hRefFfn2Ideal := Cert.RefFfn2Ideal.Gen.facts) :=
  fun m g _ => (θ_run Cert.RefFfn2Ideal.defs _ _).mono
    (fun r h => ⟨fun c => (h c).2, sem_eq_zero_of_no_sems rfl _⟩) (Cert.RefFfn2Ideal.Value.run (F := Ideal) m g)

/-- What the precondition says: the gain and the gate weights are real numbers. -/
theorem finite_of_pre {m : (ℓ : Loc Cert.Ffn2Ideal.nD Cert.Ffn2Ideal.τ Cert.Ffn2Ideal.sig) → Buf (Elt Ideal) ℓ}
    (h : Cert.Pre_Ffn2Ideal_ffn2_gate_finite (hPre_ffn2_gate_finite := Cert.Pre_ffn2_gate_finite.Gen.facts) m) (c : Dev Cert.Ffn2Ideal.nD) :
    (∀ i, IsReal ((m ((c.tc : Thread Cert.Ffn2Ideal.nD Cert.Ffn2Ideal.τ).loc Cert.Ffn2Ideal.main_arg1) : Vec Ideal Cert.Ffn2Ideal.S1x1024 .f32) i))
      ∧ ∀ i, IsReal ((m ((c.tc : Thread Cert.Ffn2Ideal.nD Cert.Ffn2Ideal.τ).loc Cert.Ffn2Ideal.main_arg2) : Vec Ideal Cert.Ffn2Ideal.S1x1024x2816 .f32) i) :=
  ⟨fun i => isReal_of_finite (congrFun (h c).1 i), fun i => isReal_of_finite (congrFun (h c).2 i)⟩

/-- The kernel's result and the reference's are equal wherever the gain and the gate weights are real numbers. -/
theorem result_eq (m : (ℓ : Loc Cert.Ffn2Ideal.nD Cert.Ffn2Ideal.τ Cert.Ffn2Ideal.sig) → Buf (Elt Ideal) ℓ)
    (m' : (ℓ : Loc Cert.RefFfn2Ideal.nD Cert.RefFfn2Ideal.τ Cert.RefFfn2Ideal.sig) → Buf (Elt Ideal) ℓ) (c : Dev Cert.Ffn2Ideal.nD)
    (hg : ∀ i, IsReal ((m ((c.tc : Thread Cert.Ffn2Ideal.nD Cert.Ffn2Ideal.τ).loc Cert.Ffn2Ideal.main_arg1) : Vec Ideal Cert.Ffn2Ideal.S1x1024 .f32) i))
    (hw : ∀ i, IsReal ((m ((c.tc : Thread Cert.Ffn2Ideal.nD Cert.Ffn2Ideal.τ).loc Cert.Ffn2Ideal.main_arg2) : Vec Ideal Cert.Ffn2Ideal.S1x1024x2816 .f32) i))
    (e0 : m' ((c.tc : Thread Cert.RefFfn2Ideal.nD Cert.RefFfn2Ideal.τ).loc Cert.RefFfn2Ideal.main_arg0) = m ((c.tc : Thread Cert.Ffn2Ideal.nD Cert.Ffn2Ideal.τ).loc Cert.Ffn2Ideal.main_arg0))
    (e1 : m' ((c.tc : Thread Cert.RefFfn2Ideal.nD Cert.RefFfn2Ideal.τ).loc Cert.RefFfn2Ideal.main_arg1) = m ((c.tc : Thread Cert.Ffn2Ideal.nD Cert.Ffn2Ideal.τ).loc Cert.Ffn2Ideal.main_arg1))
    (e2 : m' ((c.tc : Thread Cert.RefFfn2Ideal.nD Cert.RefFfn2Ideal.τ).loc Cert.RefFfn2Ideal.main_arg2) = m ((c.tc : Thread Cert.Ffn2Ideal.nD Cert.Ffn2Ideal.τ).loc Cert.Ffn2Ideal.main_arg2))
    (e3 : m' ((c.tc : Thread Cert.RefFfn2Ideal.nD Cert.RefFfn2Ideal.τ).loc Cert.RefFfn2Ideal.main_arg3) = m ((c.tc : Thread Cert.Ffn2Ideal.nD Cert.Ffn2Ideal.τ).loc Cert.Ffn2Ideal.main_arg3))
    (e4 : m' ((c.tc : Thread Cert.RefFfn2Ideal.nD Cert.RefFfn2Ideal.τ).loc Cert.RefFfn2Ideal.main_arg4) = m ((c.tc : Thread Cert.Ffn2Ideal.nD Cert.Ffn2Ideal.τ).loc Cert.Ffn2Ideal.main_arg4))
    (e5 : m' ((c.tc : Thread Cert.RefFfn2Ideal.nD Cert.RefFfn2Ideal.τ).loc Cert.RefFfn2Ideal.main_arg5) = m ((c.tc : Thread Cert.Ffn2Ideal.nD Cert.Ffn2Ideal.τ).loc Cert.Ffn2Ideal.main_arg5)) :
    (Cert.RefFfn2Ideal.Value.res_main_v37 m' c : Vec Ideal Cert.Ffn2Ideal.S16384x1024 .f32) = Cert.Ffn2Ideal.Run.result m c := by
  rw [Cert.RefFfn2Ideal.Read.val_main_v37_eq, e0, e1, e2, e3, e4, e5]
  funext i
  rw [ValueIdx.eq_ix2 i]
  refine (Cert.RefFfn2Ideal.Rows.result_apply _ _ _ _ _ _ _ _).trans (Eq.symm ?_)
  refine (Cert.Ffn2Ideal.Run.result_apply m c _ _).trans (congrFun (congrArg (fun y => normed y _) ?_) _)
  exact row_eq _ _ _ _ _ (fun k => hg _) (fun k n => hw _)

/-- Over the reals the kernel computes the reference. -/
theorem algebraic : Cert.algebraic_Ffn2Ideal_RefFfn2Ideal_pre_ffn2_gate_finite (hFfn2Ideal := Cert.Ffn2Ideal.Gen.facts)
    (hRefFfn2Ideal := Cert.RefFfn2Ideal.Gen.facts) (hPre_ffn2_gate_finite := Cert.Pre_ffn2_gate_finite.Gen.facts) :=
  fun m g m' g' hpre hargs => ⟨fun c => Cert.Ffn2Ideal.Run.result m c,
    (θ_run Cert.Ffn2Ideal.defs _ _).mono (fun _ h => h.1) (Cert.Ffn2Ideal.Run.run_result (F := Ideal) m g),
    (θ_run Cert.RefFfn2Ideal.defs _ _).mono (fun _ h c => ⟨(h c).1.trans
      (result_eq m m' c (finite_of_pre hpre c).1 (finite_of_pre hpre c).2 (hargs c).1 (hargs c).2.1 (hargs c).2.2.1
        (hargs c).2.2.2.1 (hargs c).2.2.2.2.1 (hargs c).2.2.2.2.2), (h c).2⟩) (Cert.RefFfn2Ideal.Value.run (F := Ideal) m' g')⟩

end Cert.Ffn2Proof

end
-- ==== Proof.lean ====
module

public import proofs.«01_k».proof.Defs
public import proofs.«01_k».proof.Proof.Gen.Kernel
public import proofs.«01_k».proof.Proof.Gen.KernelIdeal
public import proofs.«01_k».proof.Proof.MixFrame
public import proofs.«01_k».proof.Proof.Ffn1Claim
public import proofs.«01_k».proof.Proof.Ffn2Claim

@[expose] public section

noncomputable section

namespace Cert.Proof

open Idealize.ShloMosaic Idealize.SL.Sem

set_option smartUnfolding false in
set_option maxHeartbeats 8000000 in
/-- The mix call's frame over the machine's own words. -/
theorem frame_kernel : Cert.quiescent_Kernel (hKernel := Cert.Kernel.Gen.facts) :=
  fun m g _ => (θ_run Cert.KernelIdeal.defs _ _).mono (fun _ h => h) (Cert.KernelIdeal.Mix.frame (F := Bits) m g)

/-- The mix call's frame over the reals. -/
theorem frame_ideal : Cert.quiescent_KernelIdeal (hKernelIdeal := Cert.KernelIdeal.Gen.facts) :=
  fun m g _ => Cert.KernelIdeal.Mix.frame (F := Ideal) m g

/-- Everything that the certificate claims. -/
theorem claim : Cert.Claim :=
  ⟨Cert.Kernel.Gen.facts, Cert.KernelIdeal.Gen.facts, Cert.Ffn1.Gen.facts, Cert.Ffn1Ideal.Gen.facts, Cert.RefFfn1Ideal.Gen.facts,
    Cert.Ffn2.Gen.facts, Cert.Ffn2Ideal.Gen.facts, Cert.RefFfn2Ideal.Gen.facts, Cert.Pre_ffn1_gate_finite.Gen.facts,
    Cert.Pre_ffn2_gate_finite.Gen.facts, frame_kernel, frame_ideal,
    Ffn1Proof.frame_bits, Ffn1Proof.frame_ideal, fun m g _ => Ffn1Proof.frame_ideal m g trivial,
    Ffn1Proof.frame_ref, fun m g _ => Ffn1Proof.frame_ref m g trivial,
    Ffn2Proof.frame_bits, Ffn2Proof.frame_ideal, fun m g _ => Ffn2Proof.frame_ideal m g trivial,
    Ffn2Proof.frame_ref, fun m g _ => Ffn2Proof.frame_ref m g trivial,
    trivial, trivial, Ffn1Proof.algebraic, trivial, Ffn2Proof.algebraic⟩

end Cert.Proof

end
